-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_on_off_boundaries_pre_finite [hKernelIdeal : Cert.KernelIdeal.Facts] [hReferenceIdeal : Cert.ReferenceIdeal.Facts] [hPre_finite : Cert.Pre_finite.Facts] [hOn_off_boundaries : Cert.On_off_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v0_0) i = v0 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v0_1) i = v1 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.1 i = 1#1 → r.2.mem ((c.tc : Thread Cert.KernelIdeal.nD Cert.KernelIdeal.τ).loc Cert.KernelIdeal.main_v0_2) i = v2 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.2.1 i = 1#1 → r.2.mem ((c.tc : Thread Cert.KernelIdeal.nD Cert.KernelIdeal.τ).loc Cert.KernelIdeal.main_v0_3) i = v3 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v73) i = v0 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v147) i = v1 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.1 i = 1#1 → r.2.mem ((c.tc : Thread Cert.ReferenceIdeal.nD Cert.ReferenceIdeal.τ).loc Cert.ReferenceIdeal.main_v151) i = v2 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.2.1 i = 1#1 → r.2.mem ((c.tc : Thread Cert.ReferenceIdeal.nD Cert.ReferenceIdeal.τ).loc Cert.ReferenceIdeal.main_v165) i = v3 c i)
          ∧ (∀ i : (⟨4, ![8, 1, 1024, 1024]⟩ : Shape).Idx, (Cert.On_off_boundaries.fn (F := Ideal) (m ((c.tc : Thread Cert.KernelIdeal.nD Cert.KernelIdeal.τ).loc Cert.KernelIdeal.main_arg0))).2.2.2.2 i = 1#1 → r.2.mem ((c.tc : Thread Cert.ReferenceIdeal.nD Cert.ReferenceIdeal.τ).loc Cert.ReferenceIdeal.main_v330) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts) (hOn_off_boundaries : Cert.On_off_boundaries.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_off_boundaries_pre_finite (hKernelIdeal := hKernelIdeal) (hReferenceIdeal := hReferenceIdeal) (hPre_finite := hPre_finite) (hOn_off_boundaries := hOn_off_boundaries)
-- ==== On_off_boundaries.lean ====
abbrev S8x3x1024x1024 : Shape := ⟨4, ![8, 3, 1024, 1024]⟩
abbrev S_ : Shape := ⟨0, ![]⟩
abbrev S8x3x1026x1026 : Shape := ⟨4, ![8, 3, 1026, 1026]⟩
abbrev S8x1x1024x1024 : Shape := ⟨4, ![8, 1, 1024, 1024]⟩
abbrev S8x1x1026x1026 : Shape := ⟨4, ![8, 1, 1026, 1026]⟩

class Facts : Prop where
  pads_S8x3x1024x1024_S8x3x1026x1026_000_000_110_110 : S8x3x1024x1024.Pads (![0, 0, 1, 1] : Fin 4 → Nat) ![0, 0, 1, 1] ![0, 0, 0, 0] S8x3x1026x1026
  h_S_ : 0 < S_.numel
  slices_S8x3x1026x1026_S8x1x1024x1024_0_0_0_0 : S8x3x1026x1026.Slices ![0, 0, 0, 0] S8x1x1024x1024
  bcast_S_S8x1x1024x1024 : S_.BroadcastsInDim S8x1x1024x1024 (![] : Fin 0 → Fin S8x1x1024x1024.rank)
  slices_S8x3x1026x1026_S8x1x1024x1024_0_0_0_2 : S8x3x1026x1026.Slices ![0, 0, 0, 2] S8x1x1024x1024
  slices_S8x3x1026x1026_S8x1x1024x1024_0_0_1_0 : S8x3x1026x1026.Slices ![0, 0, 1, 0] S8x1x1024x1024
  slices_S8x3x1026x1026_S8x1x1024x1024_0_0_1_2 : S8x3x1026x1026.Slices ![0, 0, 1, 2] S8x1x1024x1024
  slices_S8x3x1026x1026_S8x1x1024x1024_0_0_2_0 : S8x3x1026x1026.Slices ![0, 0, 2, 0] S8x1x1024x1024
  slices_S8x3x1026x1026_S8x1x1024x1024_0_0_2_2 : S8x3x1026x1026.Slices ![0, 0, 2, 2] S8x1x1024x1024
  slices_S8x3x1026x1026_S8x1x1024x1024_0_1_0_0 : S8x3x1026x1026.Slices ![0, 1, 0, 0] S8x1x1024x1024
  slices_S8x3x1026x1026_S8x1x1024x1024_0_1_0_2 : S8x3x1026x1026.Slices ![0, 1, 0, 2] S8x1x1024x1024
  slices_S8x3x1026x1026_S8x1x1024x1024_0_1_1_0 : S8x3x1026x1026.Slices ![0, 1, 1, 0] S8x1x1024x1024
  slices_S8x3x1026x1026_S8x1x1024x1024_0_1_1_2 : S8x3x1026x1026.Slices ![0, 1, 1, 2] S8x1x1024x1024
  slices_S8x3x1026x1026_S8x1x1024x1024_0_1_2_0 : S8x3x1026x1026.Slices ![0, 1, 2, 0] S8x1x1024x1024
  slices_S8x3x1026x1026_S8x1x1024x1024_0_1_2_2 : S8x3x1026x1026.Slices ![0, 1, 2, 2] S8x1x1024x1024
  slices_S8x3x1026x1026_S8x1x1024x1024_0_2_0_0 : S8x3x1026x1026.Slices ![0, 2, 0, 0] S8x1x1024x1024
  slices_S8x3x1026x1026_S8x1x1024x1024_0_2_0_2 : S8x3x1026x1026.Slices ![0, 2, 0, 2] S8x1x1024x1024
  slices_S8x3x1026x1026_S8x1x1024x1024_0_2_1_0 : S8x3x1026x1026.Slices ![0, 2, 1, 0] S8x1x1024x1024
  slices_S8x3x1026x1026_S8x1x1024x1024_0_2_1_2 : S8x3x1026x1026.Slices ![0, 2, 1, 2] S8x1x1024x1024
  slices_S8x3x1026x1026_S8x1x1024x1024_0_2_2_0 : S8x3x1026x1026.Slices ![0, 2, 2, 0] S8x1x1024x1024
  slices_S8x3x1026x1026_S8x1x1024x1024_0_2_2_2 : S8x3x1026x1026.Slices ![0, 2, 2, 2] S8x1x1024x1024
  slices_S8x3x1026x1026_S8x1x1024x1024_0_0_0_1 : S8x3x1026x1026.Slices ![0, 0, 0, 1] S8x1x1024x1024
  slices_S8x3x1026x1026_S8x1x1024x1024_0_0_2_1 : S8x3x1026x1026.Slices ![0, 0, 2, 1] S8x1x1024x1024
  slices_S8x3x1026x1026_S8x1x1024x1024_0_1_0_1 : S8x3x1026x1026.Slices ![0, 1, 0, 1] S8x1x1024x1024
  slices_S8x3x1026x1026_S8x1x1024x1024_0_1_2_1 : S8x3x1026x1026.Slices ![0, 1, 2, 1] S8x1x1024x1024
  slices_S8x3x1026x1026_S8x1x1024x1024_0_2_0_1 : S8x3x1026x1026.Slices ![0, 2, 0, 1] S8x1x1024x1024
  slices_S8x3x1026x1026_S8x1x1024x1024_0_2_2_1 : S8x3x1026x1026.Slices ![0, 2, 2, 1] S8x1x1024x1024
  pads_S8x1x1024x1024_S8x1x1026x1026_000_000_110_110 : S8x1x1024x1024.Pads (![0, 0, 1, 1] : Fin 4 → Nat) ![0, 0, 1, 1] ![0, 0, 0, 0] S8x1x1026x1026
  slices_S8x1x1026x1026_S8x1x1024x1024_0_0_0_0 : S8x1x1026x1026.Slices ![0, 0, 0, 0] S8x1x1024x1024
  slices_S8x1x1026x1026_S8x1x1024x1024_0_0_0_1 : S8x1x1026x1026.Slices ![0, 0, 0, 1] S8x1x1024x1024
  slices_S8x1x1026x1026_S8x1x1024x1024_0_0_0_2 : S8x1x1026x1026.Slices ![0, 0, 0, 2] S8x1x1024x1024
  slices_S8x1x1026x1026_S8x1x1024x1024_0_0_1_0 : S8x1x1026x1026.Slices ![0, 0, 1, 0] S8x1x1024x1024
  slices_S8x1x1026x1026_S8x1x1024x1024_0_0_1_1 : S8x1x1026x1026.Slices ![0, 0, 1, 1] S8x1x1024x1024
  slices_S8x1x1026x1026_S8x1x1024x1024_0_0_1_2 : S8x1x1026x1026.Slices ![0, 0, 1, 2] S8x1x1024x1024
  slices_S8x1x1026x1026_S8x1x1024x1024_0_0_2_0 : S8x1x1026x1026.Slices ![0, 0, 2, 0] S8x1x1024x1024
  slices_S8x1x1026x1026_S8x1x1024x1024_0_0_2_1 : S8x1x1026x1026.Slices ![0, 0, 2, 1] S8x1x1024x1024
  slices_S8x1x1026x1026_S8x1x1024x1024_0_0_2_2 : S8x1x1026x1026.Slices ![0, 0, 2, 2] S8x1x1024x1024

variable [Facts]

def fn_pad {F : FTy → Type} [FloatOps F] (arg0 : FVec F S8x3x1024x1024 .f32) (arg1 : IVec S_ 32) : FVec F S8x3x1026x1026 .f32 :=
  let v0 : FVec F S_ .f32 := sitofp .f32 arg1
  let v1 : FVec F S8x3x1026x1026 .f32 := (fun x v => pad S8x3x1026x1026 ![0, 0, 1, 1] ![0, 0, 1, 1] ![0, 0, 0, 0] x v pads_S8x3x1024x1024_S8x3x1026x1026_000_000_110_110 h_S_) arg0 v0
  v1

def fn_pad_0 {F : FTy → Type} [FloatOps F] (arg0 : FVec F S8x1x1024x1024 .f32) (arg1 : FVec F S_ .f32) : FVec F S8x1x1026x1026 .f32 :=
  let v0 : FVec F S_ .f32 := id arg1
  let v1 : FVec F S8x1x1026x1026 .f32 := (fun x v => pad S8x1x1026x1026 ![0, 0, 1, 1] ![0, 0, 1, 1] ![0, 0, 0, 0] x v pads_S8x1x1024x1024_S8x1x1026x1026_000_000_110_110 h_S_) arg0 v0
  v1

def fn_part11 {F : FTy → Type} [FloatOps F] (main_v174 : IVec S8x1x1024x1024 1) (main_v176 : FVec F S8x1x1026x1026 .f32) (main_v205 : IVec S8x1x1024x1024 1) : IVec S8x1x1024x1024 1 × IVec S8x1x1024x1024 1 × IVec S8x1x1024x1024 1 × IVec S8x1x1024x1024 1 × IVec S8x1x1024x1024 1 :=
  let main_v206 : FVec F S8x1x1024x1024 .f32 := (extractStridedSlice S8x1x1024x1024 ![0, 0, 2, 1] · slices_S8x1x1026x1026_S8x1x1024x1024_0_0_2_1) main_v176
  let main_cst_56 : FVec F S_ .f32 := constant S_ .f32 0x3F800000#32
  let main_v207 : FVec F S8x1x1024x1024 .f32 := broadcastInDim S8x1x1024x1024 ![] bcast_S_S8x1x1024x1024 main_cst_56
  let main_v208 : IVec S8x1x1024x1024 1 := cmpf .oeq main_v206 main_v207
  let main_v209 : IVec S8x1x1024x1024 1 := andi main_v205 main_v208
  let main_v210 : FVec F S8x1x1024x1024 .f32 := (extractStridedSlice S8x1x1024x1024 ![0, 0, 2, 2] · slices_S8x1x1026x1026_S8x1x1024x1024_0_0_2_2) main_v176
  let main_cst_57 : FVec F S_ .f32 := constant S_ .f32 0x3F800000#32
  let main_v211 : FVec F S8x1x1024x1024 .f32 := broadcastInDim S8x1x1024x1024 ![] bcast_S_S8x1x1024x1024 main_cst_57
  let main_v212 : IVec S8x1x1024x1024 1 := cmpf .oeq main_v210 main_v211
  let main_v213 : IVec S8x1x1024x1024 1 := andi main_v209 main_v212
  let main_c_58 : IVec S_ 1 := constantI S_ 1 1#1
  let main_v214 : IVec S8x1x1024x1024 1 := broadcastInDim S8x1x1024x1024 ![] bcast_S_S8x1x1024x1024 main_c_58
  (main_v214, main_v214, main_v214, main_v174, main_v213)

def fn_part10 {F : FTy → Type} [FloatOps F] (main_v174 : IVec S8x1x1024x1024 1) (main_v176 : FVec F S8x1x1026x1026 .f32) (main_v185 : IVec S8x1x1024x1024 1) (main_v186 : FVec F S8x1x1024x1024 .f32) : IVec S8x1x1024x1024 1 × IVec S8x1x1024x1024 1 × IVec S8x1x1024x1024 1 × IVec S8x1x1024x1024 1 × IVec S8x1x1024x1024 1 :=
  let main_cst_51 : FVec F S_ .f32 := constant S_ .f32 0x3F800000#32
  let main_v187 : FVec F S8x1x1024x1024 .f32 := broadcastInDim S8x1x1024x1024 ![] bcast_S_S8x1x1024x1024 main_cst_51
  let main_v188 : IVec S8x1x1024x1024 1 := cmpf .oeq main_v186 main_v187
  let main_v189 : IVec S8x1x1024x1024 1 := andi main_v185 main_v188
  let main_v190 : FVec F S8x1x1024x1024 .f32 := (extractStridedSlice S8x1x1024x1024 ![0, 0, 1, 0] · slices_S8x1x1026x1026_S8x1x1024x1024_0_0_1_0) main_v176
  let main_cst_52 : FVec F S_ .f32 := constant S_ .f32 0x3F800000#32
  let main_v191 : FVec F S8x1x1024x1024 .f32 := broadcastInDim S8x1x1024x1024 ![] bcast_S_S8x1x1024x1024 main_cst_52
  let main_v192 : IVec S8x1x1024x1024 1 := cmpf .oeq main_v190 main_v191
  let main_v193 : IVec S8x1x1024x1024 1 := andi main_v189 main_v192
  let main_v194 : FVec F S8x1x1024x1024 .f32 := (extractStridedSlice S8x1x1024x1024 ![0, 0, 1, 1] · slices_S8x1x1026x1026_S8x1x1024x1024_0_0_1_1) main_v176
  let main_cst_53 : FVec F S_ .f32 := constant S_ .f32 0x3F800000#32
  let main_v195 : FVec F S8x1x1024x1024 .f32 := broadcastInDim S8x1x1024x1024 ![] bcast_S_S8x1x1024x1024 main_cst_53
  let main_v196 : IVec S8x1x1024x1024 1 := cmpf .oeq main_v194 main_v195
  let main_v197 : IVec S8x1x1024x1024 1 := andi main_v193 main_v196
  let main_v198 : FVec F S8x1x1024x1024 .f32 := (extractStridedSlice S8x1x1024x1024 ![0, 0, 1, 2] · slices_S8x1x1026x1026_S8x1x1024x1024_0_0_1_2) main_v176
  let main_cst_54 : FVec F S_ .f32 := constant S_ .f32 0x3F800000#32
  let main_v199 : FVec F S8x1x1024x1024 .f32 := broadcastInDim S8x1x1024x1024 ![] bcast_S_S8x1x1024x1024 main_cst_54
  let main_v200 : IVec S8x1x1024x1024 1 := cmpf .oeq main_v198 main_v199
  let main_v201 : IVec S8x1x1024x1024 1 := andi main_v197 main_v200
  let main_v202 : FVec F S8x1x1024x1024 .f32 := (extractStridedSlice S8x1x1024x1024 ![0, 0, 2, 0] · slices_S8x1x1026x1026_S8x1x1024x1024_0_0_2_0) main_v176
  let main_cst_55 : FVec F S_ .f32 := constant S_ .f32 0x3F800000#32
  let main_v203 : FVec F S8x1x1024x1024 .f32 := broadcastInDim S8x1x1024x1024 ![] bcast_S_S8x1x1024x1024 main_cst_55
  let main_v204 : IVec S8x1x1024x1024 1 := cmpf .oeq main_v202 main_v203
  let main_v205 : IVec S8x1x1024x1024 1 := andi main_v201 main_v204
  fn_part11 (F := F) main_v174 main_v176 main_v205

def fn_part9 {F : FTy → Type} [FloatOps F] (main_v149 : FVec F S8x1x1024x1024 .f32) (main_v168 : IVec S8x1x1024x1024 1) : IVec S8x1x1024x1024 1 × IVec S8x1x1024x1024 1 × IVec S8x1x1024x1024 1 × IVec S8x1x1024x1024 1 × IVec S8x1x1024x1024 1 :=
  let main_cst_45 : FVec F S_ .f32 := constant S_ .f32 0x40A0DFF5#32
  let main_v169 : FVec F S8x1x1024x1024 .f32 := broadcastInDim S8x1x1024x1024 ![] bcast_S_S8x1x1024x1024 main_cst_45
  let main_v170 : IVec S8x1x1024x1024 1 := cmpf .olt main_v149 main_v169
  let main_cst_46 : FVec F S_ .f32 := constant S_ .f32 0x40A0DFF9#32
  let main_v171 : FVec F S8x1x1024x1024 .f32 := broadcastInDim S8x1x1024x1024 ![] bcast_S_S8x1x1024x1024 main_cst_46
  let main_v172 : IVec S8x1x1024x1024 1 := cmpf .ogt main_v149 main_v171
  let main_v173 : IVec S8x1x1024x1024 1 := ori main_v170 main_v172
  let main_v174 : IVec S8x1x1024x1024 1 := andi main_v168 main_v173
  let main_v175 : FVec F S8x1x1024x1024 .f32 := uitofp .f32 main_v174
  let main_cst_47 : FVec F S_ .f32 := constant S_ .f32 0x3F800000#32
  let main_v176 : FVec F S8x1x1026x1026 .f32 := fn_pad_0 (F := F) main_v175 main_cst_47
  let main_c_48 : IVec S_ 1 := constantI S_ 1 1#1
  let main_v177 : IVec S8x1x1024x1024 1 := broadcastInDim S8x1x1024x1024 ![] bcast_S_S8x1x1024x1024 main_c_48
  let main_v178 : FVec F S8x1x1024x1024 .f32 := (extractStridedSlice S8x1x1024x1024 ![0, 0, 0, 0] · slices_S8x1x1026x1026_S8x1x1024x1024_0_0_0_0) main_v176
  let main_cst_49 : FVec F S_ .f32 := constant S_ .f32 0x3F800000#32
  let main_v179 : FVec F S8x1x1024x1024 .f32 := broadcastInDim S8x1x1024x1024 ![] bcast_S_S8x1x1024x1024 main_cst_49
  let main_v180 : IVec S8x1x1024x1024 1 := cmpf .oeq main_v178 main_v179
  let main_v181 : IVec S8x1x1024x1024 1 := andi main_v177 main_v180
  let main_v182 : FVec F S8x1x1024x1024 .f32 := (extractStridedSlice S8x1x1024x1024 ![0, 0, 0, 1] · slices_S8x1x1026x1026_S8x1x1024x1024_0_0_0_1) main_v176
  let main_cst_50 : FVec F S_ .f32 := constant S_ .f32 0x3F800000#32
  let main_v183 : FVec F S8x1x1024x1024 .f32 := broadcastInDim S8x1x1024x1024 ![] bcast_S_S8x1x1024x1024 main_cst_50
  let main_v184 : IVec S8x1x1024x1024 1 := cmpf .oeq main_v182 main_v183
  let main_v185 : IVec S8x1x1024x1024 1 := andi main_v181 main_v184
  let main_v186 : FVec F S8x1x1024x1024 .f32 := (extractStridedSlice S8x1x1024x1024 ![0, 0, 0, 2] · slices_S8x1x1026x1026_S8x1x1024x1024_0_0_0_2) main_v176
  fn_part10 (F := F) main_v174 main_v176 main_v185 main_v186

def fn_part8 {F : FTy → Type} [FloatOps F] (main_v149 : FVec F S8x1x1024x1024 .f32) (main_v150 : IVec S8x1x1024x1024 1) : IVec S8x1x1024x1024 1 × IVec S8x1x1024x1024 1 × IVec S8x1x1024x1024 1 × IVec S8x1x1024x1024 1 × IVec S8x1x1024x1024 1 :=
  let main_cst_39 : FVec F S_ .f32 := constant S_ .f32 0x3E4BAF6F#32
  let main_v151 : FVec F S8x1x1024x1024 .f32 := broadcastInDim S8x1x1024x1024 ![] bcast_S_S8x1x1024x1024 main_cst_39
  let main_v152 : IVec S8x1x1024x1024 1 := cmpf .olt main_v149 main_v151
  let main_cst_40 : FVec F S_ .f32 := constant S_ .f32 0x3E4BAFEF#32
  let main_v153 : FVec F S8x1x1024x1024 .f32 := broadcastInDim S8x1x1024x1024 ![] bcast_S_S8x1x1024x1024 main_cst_40
  let main_v154 : IVec S8x1x1024x1024 1 := cmpf .ogt main_v149 main_v153
  let main_v155 : IVec S8x1x1024x1024 1 := ori main_v152 main_v154
  let main_v156 : IVec S8x1x1024x1024 1 := andi main_v150 main_v155
  let main_cst_41 : FVec F S_ .f32 := constant S_ .f32 0x3F2B0DB1#32
  let main_v157 : FVec F S8x1x1024x1024 .f32 := broadcastInDim S8x1x1024x1024 ![] bcast_S_S8x1x1024x1024 main_cst_41
  let main_v158 : IVec S8x1x1024x1024 1 := cmpf .olt main_v149 main_v157
  let main_cst_42 : FVec F S_ .f32 := constant S_ .f32 0x3F2B0DD1#32
  let main_v159 : FVec F S8x1x1024x1024 .f32 := broadcastInDim S8x1x1024x1024 ![] bcast_S_S8x1x1024x1024 main_cst_42
  let main_v160 : IVec S8x1x1024x1024 1 := cmpf .ogt main_v149 main_v159
  let main_v161 : IVec S8x1x1024x1024 1 := ori main_v158 main_v160
  let main_v162 : IVec S8x1x1024x1024 1 := andi main_v156 main_v161
  let main_cst_43 : FVec F S_ .f32 := constant S_ .f32 0x3FBF90BF#32
  let main_v163 : FVec F S8x1x1024x1024 .f32 := broadcastInDim S8x1x1024x1024 ![] bcast_S_S8x1x1024x1024 main_cst_43
  let main_v164 : IVec S8x1x1024x1024 1 := cmpf .olt main_v149 main_v163
  let main_cst_44 : FVec F S_ .f32 := constant S_ .f32 0x3FBF90CF#32
  let main_v165 : FVec F S8x1x1024x1024 .f32 := broadcastInDim S8x1x1024x1024 ![] bcast_S_S8x1x1024x1024 main_cst_44
  let main_v166 : IVec S8x1x1024x1024 1 := cmpf .ogt main_v149 main_v165
  let main_v167 : IVec S8x1x1024x1024 1 := ori main_v164 main_v166
  let main_v168 : IVec S8x1x1024x1024 1 := andi main_v162 main_v167
  fn_part9 (F := F) main_v149 main_v168

def fn_part7 {F : FTy → Type} [FloatOps F] (main_v73 : FVec F S8x1x1024x1024 .f32) (main_v74 : FVec F S8x3x1026x1026 .f32) (main_v129 : FVec F S8x1x1024x1024 .f32) (main_v130 : FVec F S8x1x1024x1024 .f32) (main_v131 : FVec F S8x1x1024x1024 .f32) : IVec S8x1x1024x1024 1 × IVec S8x1x1024x1024 1 × IVec S8x1x1024x1024 1 × IVec S8x1x1024x1024 1 × IVec S8x1x1024x1024 1 :=
  let main_v132 : FVec F S8x1x1024x1024 .f32 := mulf main_v130 main_v131
  let main_v133 : FVec F S8x1x1024x1024 .f32 := addf main_v129 main_v132
  let main_v134 : FVec F S8x1x1024x1024 .f32 := (extractStridedSlice S8x1x1024x1024 ![0, 2, 2, 0] · slices_S8x3x1026x1026_S8x1x1024x1024_0_2_2_0) main_v74
  let main_cst_34 : FVec F S_ .f32 := constant S_ .f32 0x3F000000#32
  let main_v135 : FVec F S8x1x1024x1024 .f32 := broadcastInDim S8x1x1024x1024 ![] bcast_S_S8x1x1024x1024 main_cst_34
  let main_v136 : FVec F S8x1x1024x1024 .f32 := mulf main_v134 main_v135
  let main_v137 : FVec F S8x1x1024x1024 .f32 := addf main_v133 main_v136
  let main_v138 : FVec F S8x1x1024x1024 .f32 := (extractStridedSlice S8x1x1024x1024 ![0, 2, 2, 1] · slices_S8x3x1026x1026_S8x1x1024x1024_0_2_2_1) main_v74
  let main_cst_35 : FVec F S_ .f32 := constant S_ .f32 0x3F800000#32
  let main_v139 : FVec F S8x1x1024x1024 .f32 := broadcastInDim S8x1x1024x1024 ![] bcast_S_S8x1x1024x1024 main_cst_35
  let main_v140 : FVec F S8x1x1024x1024 .f32 := mulf main_v138 main_v139
  let main_v141 : FVec F S8x1x1024x1024 .f32 := addf main_v137 main_v140
  let main_v142 : FVec F S8x1x1024x1024 .f32 := (extractStridedSlice S8x1x1024x1024 ![0, 2, 2, 2] · slices_S8x3x1026x1026_S8x1x1024x1024_0_2_2_2) main_v74
  let main_cst_36 : FVec F S_ .f32 := constant S_ .f32 0x3F000000#32
  let main_v143 : FVec F S8x1x1024x1024 .f32 := broadcastInDim S8x1x1024x1024 ![] bcast_S_S8x1x1024x1024 main_cst_36
  let main_v144 : FVec F S8x1x1024x1024 .f32 := mulf main_v142 main_v143
  let main_v145 : FVec F S8x1x1024x1024 .f32 := addf main_v141 main_v144
  let main_cst_37 : FVec F S_ .f32 := constant S_ .f32 0x40400000#32
  let main_v146 : FVec F S8x1x1024x1024 .f32 := broadcastInDim S8x1x1024x1024 ![] bcast_S_S8x1x1024x1024 main_cst_37
  let main_v147 : FVec F S8x1x1024x1024 .f32 := Host.divf main_v145 main_v146
  let main_v148 : FVec F S8x1x1024x1024 .f32 := Host.divf main_v147 main_v73
  let main_v149 : FVec F S8x1x1024x1024 .f32 := Host.absf main_v148
  let main_c_38 : IVec S_ 1 := constantI S_ 1 1#1
  let main_v150 : IVec S8x1x1024x1024 1 := broadcastInDim S8x1x1024x1024 ![] bcast_S_S8x1x1024x1024 main_c_38
  fn_part8 (F := F) main_v149 main_v150

def fn_part6 {F : FTy → Type} [FloatOps F] (main_v73 : FVec F S8x1x1024x1024 .f32) (main_v74 : FVec F S8x3x1026x1026 .f32) (main_v109 : FVec F S8x1x1024x1024 .f32) (main_v112 : FVec F S8x1x1024x1024 .f32) : IVec S8x1x1024x1024 1 × IVec S8x1x1024x1024 1 × IVec S8x1x1024x1024 1 × IVec S8x1x1024x1024 1 × IVec S8x1x1024x1024 1 :=
  let main_v113 : FVec F S8x1x1024x1024 .f32 := addf main_v109 main_v112
  let main_v114 : FVec F S8x1x1024x1024 .f32 := (extractStridedSlice S8x1x1024x1024 ![0, 1, 2, 1] · slices_S8x3x1026x1026_S8x1x1024x1024_0_1_2_1) main_v74
  let main_cst_29 : FVec F S_ .f32 := constant S_ .f32 0x3F800000#32
  let main_v115 : FVec F S8x1x1024x1024 .f32 := broadcastInDim S8x1x1024x1024 ![] bcast_S_S8x1x1024x1024 main_cst_29
  let main_v116 : FVec F S8x1x1024x1024 .f32 := mulf main_v114 main_v115
  let main_v117 : FVec F S8x1x1024x1024 .f32 := addf main_v113 main_v116
  let main_v118 : FVec F S8x1x1024x1024 .f32 := (extractStridedSlice S8x1x1024x1024 ![0, 1, 2, 2] · slices_S8x3x1026x1026_S8x1x1024x1024_0_1_2_2) main_v74
  let main_cst_30 : FVec F S_ .f32 := constant S_ .f32 0x3F000000#32
  let main_v119 : FVec F S8x1x1024x1024 .f32 := broadcastInDim S8x1x1024x1024 ![] bcast_S_S8x1x1024x1024 main_cst_30
  let main_v120 : FVec F S8x1x1024x1024 .f32 := mulf main_v118 main_v119
  let main_v121 : FVec F S8x1x1024x1024 .f32 := addf main_v117 main_v120
  let main_v122 : FVec F S8x1x1024x1024 .f32 := (extractStridedSlice S8x1x1024x1024 ![0, 2, 0, 0] · slices_S8x3x1026x1026_S8x1x1024x1024_0_2_0_0) main_v74
  let main_cst_31 : FVec F S_ .f32 := constant S_ .f32 0xBF000000#32
  let main_v123 : FVec F S8x1x1024x1024 .f32 := broadcastInDim S8x1x1024x1024 ![] bcast_S_S8x1x1024x1024 main_cst_31
  let main_v124 : FVec F S8x1x1024x1024 .f32 := mulf main_v122 main_v123
  let main_v125 : FVec F S8x1x1024x1024 .f32 := addf main_v121 main_v124
  let main_v126 : FVec F S8x1x1024x1024 .f32 := (extractStridedSlice S8x1x1024x1024 ![0, 2, 0, 1] · slices_S8x3x1026x1026_S8x1x1024x1024_0_2_0_1) main_v74
  let main_cst_32 : FVec F S_ .f32 := constant S_ .f32 0xBF800000#32
  let main_v127 : FVec F S8x1x1024x1024 .f32 := broadcastInDim S8x1x1024x1024 ![] bcast_S_S8x1x1024x1024 main_cst_32
  let main_v128 : FVec F S8x1x1024x1024 .f32 := mulf main_v126 main_v127
  let main_v129 : FVec F S8x1x1024x1024 .f32 := addf main_v125 main_v128
  let main_v130 : FVec F S8x1x1024x1024 .f32 := (extractStridedSlice S8x1x1024x1024 ![0, 2, 0, 2] · slices_S8x3x1026x1026_S8x1x1024x1024_0_2_0_2) main_v74
  let main_cst_33 : FVec F S_ .f32 := constant S_ .f32 0xBF000000#32
  let main_v131 : FVec F S8x1x1024x1024 .f32 := broadcastInDim S8x1x1024x1024 ![] bcast_S_S8x1x1024x1024 main_cst_33
  fn_part7 (F := F) main_v73 main_v74 main_v129 main_v130 main_v131

def fn_part5 {F : FTy → Type} [FloatOps F] (main_v73 : FVec F S8x1x1024x1024 .f32) (main_v74 : FVec F S8x3x1026x1026 .f32) (main_v93 : FVec F S8x1x1024x1024 .f32) : IVec S8x1x1024x1024 1 × IVec S8x1x1024x1024 1 × IVec S8x1x1024x1024 1 × IVec S8x1x1024x1024 1 × IVec S8x1x1024x1024 1 :=
  let main_v94 : FVec F S8x1x1024x1024 .f32 := (extractStridedSlice S8x1x1024x1024 ![0, 0, 2, 2] · slices_S8x3x1026x1026_S8x1x1024x1024_0_0_2_2) main_v74
  let main_cst_24 : FVec F S_ .f32 := constant S_ .f32 0x3F000000#32
  let main_v95 : FVec F S8x1x1024x1024 .f32 := broadcastInDim S8x1x1024x1024 ![] bcast_S_S8x1x1024x1024 main_cst_24
  let main_v96 : FVec F S8x1x1024x1024 .f32 := mulf main_v94 main_v95
  let main_v97 : FVec F S8x1x1024x1024 .f32 := addf main_v93 main_v96
  let main_v98 : FVec F S8x1x1024x1024 .f32 := (extractStridedSlice S8x1x1024x1024 ![0, 1, 0, 0] · slices_S8x3x1026x1026_S8x1x1024x1024_0_1_0_0) main_v74
  let main_cst_25 : FVec F S_ .f32 := constant S_ .f32 0xBF000000#32
  let main_v99 : FVec F S8x1x1024x1024 .f32 := broadcastInDim S8x1x1024x1024 ![] bcast_S_S8x1x1024x1024 main_cst_25
  let main_v100 : FVec F S8x1x1024x1024 .f32 := mulf main_v98 main_v99
  let main_v101 : FVec F S8x1x1024x1024 .f32 := addf main_v97 main_v100
  let main_v102 : FVec F S8x1x1024x1024 .f32 := (extractStridedSlice S8x1x1024x1024 ![0, 1, 0, 1] · slices_S8x3x1026x1026_S8x1x1024x1024_0_1_0_1) main_v74
  let main_cst_26 : FVec F S_ .f32 := constant S_ .f32 0xBF800000#32
  let main_v103 : FVec F S8x1x1024x1024 .f32 := broadcastInDim S8x1x1024x1024 ![] bcast_S_S8x1x1024x1024 main_cst_26
  let main_v104 : FVec F S8x1x1024x1024 .f32 := mulf main_v102 main_v103
  let main_v105 : FVec F S8x1x1024x1024 .f32 := addf main_v101 main_v104
  let main_v106 : FVec F S8x1x1024x1024 .f32 := (extractStridedSlice S8x1x1024x1024 ![0, 1, 0, 2] · slices_S8x3x1026x1026_S8x1x1024x1024_0_1_0_2) main_v74
  let main_cst_27 : FVec F S_ .f32 := constant S_ .f32 0xBF000000#32
  let main_v107 : FVec F S8x1x1024x1024 .f32 := broadcastInDim S8x1x1024x1024 ![] bcast_S_S8x1x1024x1024 main_cst_27
  let main_v108 : FVec F S8x1x1024x1024 .f32 := mulf main_v106 main_v107
  let main_v109 : FVec F S8x1x1024x1024 .f32 := addf main_v105 main_v108
  let main_v110 : FVec F S8x1x1024x1024 .f32 := (extractStridedSlice S8x1x1024x1024 ![0, 1, 2, 0] · slices_S8x3x1026x1026_S8x1x1024x1024_0_1_2_0) main_v74
  let main_cst_28 : FVec F S_ .f32 := constant S_ .f32 0x3F000000#32
  let main_v111 : FVec F S8x1x1024x1024 .f32 := broadcastInDim S8x1x1024x1024 ![] bcast_S_S8x1x1024x1024 main_cst_28
  let main_v112 : FVec F S8x1x1024x1024 .f32 := mulf main_v110 main_v111
  fn_part6 (F := F) main_v73 main_v74 main_v109 main_v112

def fn_part4 {F : FTy → Type} [FloatOps F] (main_v73 : FVec F S8x1x1024x1024 .f32) (main_v74 : FVec F S8x3x1026x1026 .f32) : IVec S8x1x1024x1024 1 × IVec S8x1x1024x1024 1 × IVec S8x1x1024x1024 1 × IVec S8x1x1024x1024 1 × IVec S8x1x1024x1024 1 :=
  let main_v75 : FVec F S8x1x1024x1024 .f32 := (extractStridedSlice S8x1x1024x1024 ![0, 0, 0, 0] · slices_S8x3x1026x1026_S8x1x1024x1024_0_0_0_0) main_v74
  let main_cst_19 : FVec F S_ .f32 := constant S_ .f32 0xBF000000#32
  let main_v76 : FVec F S8x1x1024x1024 .f32 := broadcastInDim S8x1x1024x1024 ![] bcast_S_S8x1x1024x1024 main_cst_19
  let main_v77 : FVec F S8x1x1024x1024 .f32 := mulf main_v75 main_v76
  let main_v78 : FVec F S8x1x1024x1024 .f32 := (extractStridedSlice S8x1x1024x1024 ![0, 0, 0, 1] · slices_S8x3x1026x1026_S8x1x1024x1024_0_0_0_1) main_v74
  let main_cst_20 : FVec F S_ .f32 := constant S_ .f32 0xBF800000#32
  let main_v79 : FVec F S8x1x1024x1024 .f32 := broadcastInDim S8x1x1024x1024 ![] bcast_S_S8x1x1024x1024 main_cst_20
  let main_v80 : FVec F S8x1x1024x1024 .f32 := mulf main_v78 main_v79
  let main_v81 : FVec F S8x1x1024x1024 .f32 := addf main_v77 main_v80
  let main_v82 : FVec F S8x1x1024x1024 .f32 := (extractStridedSlice S8x1x1024x1024 ![0, 0, 0, 2] · slices_S8x3x1026x1026_S8x1x1024x1024_0_0_0_2) main_v74
  let main_cst_21 : FVec F S_ .f32 := constant S_ .f32 0xBF000000#32
  let main_v83 : FVec F S8x1x1024x1024 .f32 := broadcastInDim S8x1x1024x1024 ![] bcast_S_S8x1x1024x1024 main_cst_21
  let main_v84 : FVec F S8x1x1024x1024 .f32 := mulf main_v82 main_v83
  let main_v85 : FVec F S8x1x1024x1024 .f32 := addf main_v81 main_v84
  let main_v86 : FVec F S8x1x1024x1024 .f32 := (extractStridedSlice S8x1x1024x1024 ![0, 0, 2, 0] · slices_S8x3x1026x1026_S8x1x1024x1024_0_0_2_0) main_v74
  let main_cst_22 : FVec F S_ .f32 := constant S_ .f32 0x3F000000#32
  let main_v87 : FVec F S8x1x1024x1024 .f32 := broadcastInDim S8x1x1024x1024 ![] bcast_S_S8x1x1024x1024 main_cst_22
  let main_v88 : FVec F S8x1x1024x1024 .f32 := mulf main_v86 main_v87
  let main_v89 : FVec F S8x1x1024x1024 .f32 := addf main_v85 main_v88
  let main_v90 : FVec F S8x1x1024x1024 .f32 := (extractStridedSlice S8x1x1024x1024 ![0, 0, 2, 1] · slices_S8x3x1026x1026_S8x1x1024x1024_0_0_2_1) main_v74
  let main_cst_23 : FVec F S_ .f32 := constant S_ .f32 0x3F800000#32
  let main_v91 : FVec F S8x1x1024x1024 .f32 := broadcastInDim S8x1x1024x1024 ![] bcast_S_S8x1x1024x1024 main_cst_23
  let main_v92 : FVec F S8x1x1024x1024 .f32 := mulf main_v90 main_v91
  let main_v93 : FVec F S8x1x1024x1024 .f32 := addf main_v89 main_v92
  fn_part5 (F := F) main_v73 main_v74 main_v93

def fn_part3 {F : FTy → Type} [FloatOps F] (main_arg0 : FVec F S8x3x1024x1024 .f32) (main_v0 : FVec F S8x3x1026x1026 .f32) (main_v55 : FVec F S8x1x1024x1024 .f32) (main_v56 : FVec F S8x1x1024x1024 .f32) : IVec S8x1x1024x1024 1 × IVec S8x1x1024x1024 1 × IVec S8x1x1024x1024 1 × IVec S8x1x1024x1024 1 × IVec S8x1x1024x1024 1 :=
  let main_cst_13 : FVec F S_ .f32 := constant S_ .f32 0xBF800000#32
  let main_v57 : FVec F S8x1x1024x1024 .f32 := broadcastInDim S8x1x1024x1024 ![] bcast_S_S8x1x1024x1024 main_cst_13
  let main_v58 : FVec F S8x1x1024x1024 .f32 := mulf main_v56 main_v57
  let main_v59 : FVec F S8x1x1024x1024 .f32 := addf main_v55 main_v58
  let main_v60 : FVec F S8x1x1024x1024 .f32 := (extractStridedSlice S8x1x1024x1024 ![0, 2, 1, 2] · slices_S8x3x1026x1026_S8x1x1024x1024_0_2_1_2) main_v0
  let main_cst_14 : FVec F S_ .f32 := constant S_ .f32 0x3F800000#32
  let main_v61 : FVec F S8x1x1024x1024 .f32 := broadcastInDim S8x1x1024x1024 ![] bcast_S_S8x1x1024x1024 main_cst_14
  let main_v62 : FVec F S8x1x1024x1024 .f32 := mulf main_v60 main_v61
  let main_v63 : FVec F S8x1x1024x1024 .f32 := addf main_v59 main_v62
  let main_v64 : FVec F S8x1x1024x1024 .f32 := (extractStridedSlice S8x1x1024x1024 ![0, 2, 2, 0] · slices_S8x3x1026x1026_S8x1x1024x1024_0_2_2_0) main_v0
  let main_cst_15 : FVec F S_ .f32 := constant S_ .f32 0xBF000000#32
  let main_v65 : FVec F S8x1x1024x1024 .f32 := broadcastInDim S8x1x1024x1024 ![] bcast_S_S8x1x1024x1024 main_cst_15
  let main_v66 : FVec F S8x1x1024x1024 .f32 := mulf main_v64 main_v65
  let main_v67 : FVec F S8x1x1024x1024 .f32 := addf main_v63 main_v66
  let main_v68 : FVec F S8x1x1024x1024 .f32 := (extractStridedSlice S8x1x1024x1024 ![0, 2, 2, 2] · slices_S8x3x1026x1026_S8x1x1024x1024_0_2_2_2) main_v0
  let main_cst_16 : FVec F S_ .f32 := constant S_ .f32 0x3F000000#32
  let main_v69 : FVec F S8x1x1024x1024 .f32 := broadcastInDim S8x1x1024x1024 ![] bcast_S_S8x1x1024x1024 main_cst_16
  let main_v70 : FVec F S8x1x1024x1024 .f32 := mulf main_v68 main_v69
  let main_v71 : FVec F S8x1x1024x1024 .f32 := addf main_v67 main_v70
  let main_cst_17 : FVec F S_ .f32 := constant S_ .f32 0x40400000#32
  let main_v72 : FVec F S8x1x1024x1024 .f32 := broadcastInDim S8x1x1024x1024 ![] bcast_S_S8x1x1024x1024 main_cst_17
  let main_v73 : FVec F S8x1x1024x1024 .f32 := Host.divf main_v71 main_v72
  let main_c_18 : IVec S_ 32 := constantI S_ 32 0#32
  let main_v74 : FVec F S8x3x1026x1026 .f32 := fn_pad (F := F) main_arg0 main_c_18
  fn_part4 (F := F) main_v73 main_v74

def fn_part2 {F : FTy → Type} [FloatOps F] (main_arg0 : FVec F S8x3x1024x1024 .f32) (main_v0 : FVec F S8x3x1026x1026 .f32) (main_v35 : FVec F S8x1x1024x1024 .f32) (main_v36 : FVec F S8x1x1024x1024 .f32) (main_cst_8 : FVec F S_ .f32) : IVec S8x1x1024x1024 1 × IVec S8x1x1024x1024 1 × IVec S8x1x1024x1024 1 × IVec S8x1x1024x1024 1 × IVec S8x1x1024x1024 1 :=
  let main_v37 : FVec F S8x1x1024x1024 .f32 := broadcastInDim S8x1x1024x1024 ![] bcast_S_S8x1x1024x1024 main_cst_8
  let main_v38 : FVec F S8x1x1024x1024 .f32 := mulf main_v36 main_v37
  let main_v39 : FVec F S8x1x1024x1024 .f32 := addf main_v35 main_v38
  let main_v40 : FVec F S8x1x1024x1024 .f32 := (extractStridedSlice S8x1x1024x1024 ![0, 1, 2, 0] · slices_S8x3x1026x1026_S8x1x1024x1024_0_1_2_0) main_v0
  let main_cst_9 : FVec F S_ .f32 := constant S_ .f32 0xBF000000#32
  let main_v41 : FVec F S8x1x1024x1024 .f32 := broadcastInDim S8x1x1024x1024 ![] bcast_S_S8x1x1024x1024 main_cst_9
  let main_v42 : FVec F S8x1x1024x1024 .f32 := mulf main_v40 main_v41
  let main_v43 : FVec F S8x1x1024x1024 .f32 := addf main_v39 main_v42
  let main_v44 : FVec F S8x1x1024x1024 .f32 := (extractStridedSlice S8x1x1024x1024 ![0, 1, 2, 2] · slices_S8x3x1026x1026_S8x1x1024x1024_0_1_2_2) main_v0
  let main_cst_10 : FVec F S_ .f32 := constant S_ .f32 0x3F000000#32
  let main_v45 : FVec F S8x1x1024x1024 .f32 := broadcastInDim S8x1x1024x1024 ![] bcast_S_S8x1x1024x1024 main_cst_10
  let main_v46 : FVec F S8x1x1024x1024 .f32 := mulf main_v44 main_v45
  let main_v47 : FVec F S8x1x1024x1024 .f32 := addf main_v43 main_v46
  let main_v48 : FVec F S8x1x1024x1024 .f32 := (extractStridedSlice S8x1x1024x1024 ![0, 2, 0, 0] · slices_S8x3x1026x1026_S8x1x1024x1024_0_2_0_0) main_v0
  let main_cst_11 : FVec F S_ .f32 := constant S_ .f32 0xBF000000#32
  let main_v49 : FVec F S8x1x1024x1024 .f32 := broadcastInDim S8x1x1024x1024 ![] bcast_S_S8x1x1024x1024 main_cst_11
  let main_v50 : FVec F S8x1x1024x1024 .f32 := mulf main_v48 main_v49
  let main_v51 : FVec F S8x1x1024x1024 .f32 := addf main_v47 main_v50
  let main_v52 : FVec F S8x1x1024x1024 .f32 := (extractStridedSlice S8x1x1024x1024 ![0, 2, 0, 2] · slices_S8x3x1026x1026_S8x1x1024x1024_0_2_0_2) main_v0
  let main_cst_12 : FVec F S_ .f32 := constant S_ .f32 0x3F000000#32
  let main_v53 : FVec F S8x1x1024x1024 .f32 := broadcastInDim S8x1x1024x1024 ![] bcast_S_S8x1x1024x1024 main_cst_12
  let main_v54 : FVec F S8x1x1024x1024 .f32 := mulf main_v52 main_v53
  let main_v55 : FVec F S8x1x1024x1024 .f32 := addf main_v51 main_v54
  let main_v56 : FVec F S8x1x1024x1024 .f32 := (extractStridedSlice S8x1x1024x1024 ![0, 2, 1, 0] · slices_S8x3x1026x1026_S8x1x1024x1024_0_2_1_0) main_v0
  fn_part3 (F := F) main_arg0 main_v0 main_v55 main_v56

def fn_part1 {F : FTy → Type} [FloatOps F] (main_arg0 : FVec F S8x3x1024x1024 .f32) (main_v0 : FVec F S8x3x1026x1026 .f32) (main_v15 : FVec F S8x1x1024x1024 .f32) (main_v16 : FVec F S8x1x1024x1024 .f32) (main_v17 : FVec F S8x1x1024x1024 .f32) : IVec S8x1x1024x1024 1 × IVec S8x1x1024x1024 1 × IVec S8x1x1024x1024 1 × IVec S8x1x1024x1024 1 × IVec S8x1x1024x1024 1 :=
  let main_v18 : FVec F S8x1x1024x1024 .f32 := mulf main_v16 main_v17
  let main_v19 : FVec F S8x1x1024x1024 .f32 := addf main_v15 main_v18
  let main_v20 : FVec F S8x1x1024x1024 .f32 := (extractStridedSlice S8x1x1024x1024 ![0, 0, 2, 2] · slices_S8x3x1026x1026_S8x1x1024x1024_0_0_2_2) main_v0
  let main_cst_4 : FVec F S_ .f32 := constant S_ .f32 0x3F000000#32
  let main_v21 : FVec F S8x1x1024x1024 .f32 := broadcastInDim S8x1x1024x1024 ![] bcast_S_S8x1x1024x1024 main_cst_4
  let main_v22 : FVec F S8x1x1024x1024 .f32 := mulf main_v20 main_v21
  let main_v23 : FVec F S8x1x1024x1024 .f32 := addf main_v19 main_v22
  let main_v24 : FVec F S8x1x1024x1024 .f32 := (extractStridedSlice S8x1x1024x1024 ![0, 1, 0, 0] · slices_S8x3x1026x1026_S8x1x1024x1024_0_1_0_0) main_v0
  let main_cst_5 : FVec F S_ .f32 := constant S_ .f32 0xBF000000#32
  let main_v25 : FVec F S8x1x1024x1024 .f32 := broadcastInDim S8x1x1024x1024 ![] bcast_S_S8x1x1024x1024 main_cst_5
  let main_v26 : FVec F S8x1x1024x1024 .f32 := mulf main_v24 main_v25
  let main_v27 : FVec F S8x1x1024x1024 .f32 := addf main_v23 main_v26
  let main_v28 : FVec F S8x1x1024x1024 .f32 := (extractStridedSlice S8x1x1024x1024 ![0, 1, 0, 2] · slices_S8x3x1026x1026_S8x1x1024x1024_0_1_0_2) main_v0
  let main_cst_6 : FVec F S_ .f32 := constant S_ .f32 0x3F000000#32
  let main_v29 : FVec F S8x1x1024x1024 .f32 := broadcastInDim S8x1x1024x1024 ![] bcast_S_S8x1x1024x1024 main_cst_6
  let main_v30 : FVec F S8x1x1024x1024 .f32 := mulf main_v28 main_v29
  let main_v31 : FVec F S8x1x1024x1024 .f32 := addf main_v27 main_v30
  let main_v32 : FVec F S8x1x1024x1024 .f32 := (extractStridedSlice S8x1x1024x1024 ![0, 1, 1, 0] · slices_S8x3x1026x1026_S8x1x1024x1024_0_1_1_0) main_v0
  let main_cst_7 : FVec F S_ .f32 := constant S_ .f32 0xBF800000#32
  let main_v33 : FVec F S8x1x1024x1024 .f32 := broadcastInDim S8x1x1024x1024 ![] bcast_S_S8x1x1024x1024 main_cst_7
  let main_v34 : FVec F S8x1x1024x1024 .f32 := mulf main_v32 main_v33
  let main_v35 : FVec F S8x1x1024x1024 .f32 := addf main_v31 main_v34
  let main_v36 : FVec F S8x1x1024x1024 .f32 := (extractStridedSlice S8x1x1024x1024 ![0, 1, 1, 2] · slices_S8x3x1026x1026_S8x1x1024x1024_0_1_1_2) main_v0
  let main_cst_8 : FVec F S_ .f32 := constant S_ .f32 0x3F800000#32
  fn_part2 (F := F) main_arg0 main_v0 main_v35 main_v36 main_cst_8

def fn {F : FTy → Type} [FloatOps F] (main_arg0 : FVec F S8x3x1024x1024 .f32) : IVec S8x1x1024x1024 1 × IVec S8x1x1024x1024 1 × IVec S8x1x1024x1024 1 × IVec S8x1x1024x1024 1 × IVec S8x1x1024x1024 1 :=
  let main_c : IVec S_ 32 := constantI S_ 32 0#32
  let main_v0 : FVec F S8x3x1026x1026 .f32 := fn_pad (F := F) main_arg0 main_c
  let main_v1 : FVec F S8x1x1024x1024 .f32 := (extractStridedSlice S8x1x1024x1024 ![0, 0, 0, 0] · slices_S8x3x1026x1026_S8x1x1024x1024_0_0_0_0) main_v0
  let main_cst : FVec F S_ .f32 := constant S_ .f32 0xBF000000#32
  let main_v2 : FVec F S8x1x1024x1024 .f32 := broadcastInDim S8x1x1024x1024 ![] bcast_S_S8x1x1024x1024 main_cst
  let main_v3 : FVec F S8x1x1024x1024 .f32 := mulf main_v1 main_v2
  let main_v4 : FVec F S8x1x1024x1024 .f32 := (extractStridedSlice S8x1x1024x1024 ![0, 0, 0, 2] · slices_S8x3x1026x1026_S8x1x1024x1024_0_0_0_2) main_v0
  let main_cst_0 : FVec F S_ .f32 := constant S_ .f32 0x3F000000#32
  let main_v5 : FVec F S8x1x1024x1024 .f32 := broadcastInDim S8x1x1024x1024 ![] bcast_S_S8x1x1024x1024 main_cst_0
  let main_v6 : FVec F S8x1x1024x1024 .f32 := mulf main_v4 main_v5
  let main_v7 : FVec F S8x1x1024x1024 .f32 := addf main_v3 main_v6
  let main_v8 : FVec F S8x1x1024x1024 .f32 := (extractStridedSlice S8x1x1024x1024 ![0, 0, 1, 0] · slices_S8x3x1026x1026_S8x1x1024x1024_0_0_1_0) main_v0
  let main_cst_1 : FVec F S_ .f32 := constant S_ .f32 0xBF800000#32
  let main_v9 : FVec F S8x1x1024x1024 .f32 := broadcastInDim S8x1x1024x1024 ![] bcast_S_S8x1x1024x1024 main_cst_1
  let main_v10 : FVec F S8x1x1024x1024 .f32 := mulf main_v8 main_v9
  let main_v11 : FVec F S8x1x1024x1024 .f32 := addf main_v7 main_v10
  let main_v12 : FVec F S8x1x1024x1024 .f32 := (extractStridedSlice S8x1x1024x1024 ![0, 0, 1, 2] · slices_S8x3x1026x1026_S8x1x1024x1024_0_0_1_2) main_v0
  let main_cst_2 : FVec F S_ .f32 := constant S_ .f32 0x3F800000#32
  let main_v13 : FVec F S8x1x1024x1024 .f32 := broadcastInDim S8x1x1024x1024 ![] bcast_S_S8x1x1024x1024 main_cst_2
  let main_v14 : FVec F S8x1x1024x1024 .f32 := mulf main_v12 main_v13
  let main_v15 : FVec F S8x1x1024x1024 .f32 := addf main_v11 main_v14
  let main_v16 : FVec F S8x1x1024x1024 .f32 := (extractStridedSlice S8x1x1024x1024 ![0, 0, 2, 0] · slices_S8x3x1026x1026_S8x1x1024x1024_0_0_2_0) main_v0
  let main_cst_3 : FVec F S_ .f32 := constant S_ .f32 0xBF000000#32
  let main_v17 : FVec F S8x1x1024x1024 .f32 := broadcastInDim S8x1x1024x1024 ![] bcast_S_S8x1x1024x1024 main_cst_3
  fn_part1 (F := F) main_arg0 main_v0 main_v15 main_v16 main_v17
-- ==== Pre_finite.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  main_v3
-- ==== Kernel.lean ====
abbrev S8x3x1024x1024 : Shape := ⟨4, ![8, 3, 1024, 1024]⟩
abbrev S8x1x1024x1024 : Shape := ⟨4, ![8, 1, 1024, 1024]⟩
abbrev S1x3x256x1024 : Shape := ⟨4, ![1, 3, 256, 1024]⟩
abbrev S1x3x8x1024 : Shape := ⟨4, ![1, 3, 8, 1024]⟩
abbrev S1x1x256x1024 : Shape := ⟨4, ![1, 1, 256, 1024]⟩
abbrev S256x1024 : Shape := ⟨2, ![256, 1024]⟩
abbrev S1x1x8x1024 : Shape := ⟨4, ![1, 1, 8, 1024]⟩
abbrev S8x1024 : Shape := ⟨2, ![8, 1024]⟩
abbrev S272x1024 : Shape := ⟨2, ![272, 1024]⟩
abbrev S271x1024 : Shape := ⟨2, ![271, 1024]⟩
abbrev S1x1024 : Shape := ⟨2, ![1, 1024]⟩
abbrev S272x1023 : Shape := ⟨2, ![272, 1023]⟩
abbrev S272x1 : Shape := ⟨2, ![272, 1]⟩

abbrev nBuf : Space → Nat
  | .hbm => 6
  | .vmem => 16
  | .smem => 0
  | _ => 0

abbrev bufTy : (tb : Table) → Fin (tcTables nBuf tb) → BufTy
  | .hbm, ⟨0, _⟩ => ⟨S8x3x1024x1024, .f32⟩
  | .hbm, ⟨1, _⟩ => ⟨S8x1x1024x1024, .f32⟩
  | .hbm, ⟨2, _⟩ => ⟨S8x1x1024x1024, .f32⟩
  | .hbm, ⟨3, _⟩ => ⟨S8x1x1024x1024, .f32⟩
  | .hbm, ⟨4, _⟩ => ⟨S8x1x1024x1024, .f32⟩
  | .hbm, ⟨5, _⟩ => ⟨S8x1x1024x1024, .f32⟩
  | .local _ .vmem, ⟨0, _⟩ => ⟨S1x3x256x1024, .f32⟩
  | .local _ .vmem, ⟨1, _⟩ => ⟨S1x3x256x1024, .f32⟩
  | .local _ .vmem, ⟨2, _⟩ => ⟨S1x3x8x1024, .f32⟩
  | .local _ .vmem, ⟨3, _⟩ => ⟨S1x3x8x1024, .f32⟩
  | .local _ .vmem, ⟨4, _⟩ => ⟨S1x3x8x1024, .f32⟩
  | .local _ .vmem, ⟨5, _⟩ => ⟨S1x3x8x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli c32_i32 v0
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "third" => some ((1 / 3 : ℝ) : EReal)
  | _ => none
-- ==== ReferenceIdeal.lean ====
abbrev S8x3x1024x1024 : Shape := ⟨4, ![8, 3, 1024, 1024]⟩
abbrev S_ : Shape := ⟨0, ![]⟩
abbrev S8x3x1026x1026 : Shape := ⟨4, ![8, 3, 1026, 1026]⟩
abbrev S8x1x1024x1024 : Shape := ⟨4, ![8, 1, 1024, 1024]⟩
abbrev S8x1x1026x1026 : Shape := ⟨4, ![8, 1, 1026, 1026]⟩

abbrev nBuf : Space → Nat
  | .hbm => 471
  | .vmem => 0
  | .smem => 0
  | _ => 0

abbrev hbmTy0_0 (i : Nat) : BufTy := match i % 128 with
  | 0 => ⟨S8x3x1024x1024, .f32⟩
  | 1 => ⟨S_, .i32⟩
  | 2 => ⟨S_, .f32⟩
  | 3 => ⟨S8x3x1026x1026, .f32⟩
  | 4 => ⟨S8x1x1024x1024, .f32⟩
  | 5 => ⟨S_, .f32⟩
  | 6 => ⟨S8x1x1024x1024, .f32⟩
  | 7 => ⟨S8x1x1024x1024, .f32⟩
  | 8 => ⟨S8x1x1024x1024, .f32⟩
  | 9 => ⟨S_, .f32⟩
  | 10 => ⟨S8x1x1024x1024, .f32⟩
  | 11 => ⟨S8x1x1024x1024, .f32⟩
  | 12 => ⟨S8x1x1024x1024, .f32⟩
  | 13 => ⟨S8x1x1024x1024, .f32⟩
  | 14 => ⟨S_, .f32⟩
  | 15 => ⟨S8x1x1024x1024, .f32⟩
  | 16 => ⟨S8x1x1024x1024, .f32⟩
  | 17 => ⟨S8x1x1024x1024, .f32⟩
  | 18 => ⟨S8x1x1024x1024, .f32⟩
  | 19 => ⟨S_, .f32⟩
  | 20 => ⟨S8x1x1024x1024, .f32⟩
  | 21 => ⟨S8x1x1024x1024, .f32⟩
  | 22 => ⟨S8x1x1024x1024, .f32⟩
  | 23 => ⟨S8x1x1024x1024, .f32⟩
  | 24 => ⟨S_, .f32⟩
  | 25 => ⟨S8x1x1024x1024, .f32⟩
  | 26 => ⟨S8x1x1024x1024, .f32⟩
  | 27 => ⟨S8x1x1024x1024, .f32⟩
  | 28 => ⟨S8x1x1024x1024, .f32⟩
  | 29 => ⟨S_, .f32⟩
  | 30 => ⟨S8x1x1024x1024, .f32⟩
  | 31 => ⟨S8x1x1024x1024, .f32⟩
  | 32 => ⟨S8x1x1024x1024, .f32⟩
  | 33 => ⟨S8x1x1024x1024, .f32⟩
  | 34 => ⟨S_, .f32⟩
  | 35 => ⟨S8x1x1024x1024, .f32⟩
  | 36 => ⟨S8x1x1024x1024, .f32⟩
  | 37 => ⟨S8x1x1024x1024, .f32⟩
  | 38 => ⟨S8x1x1024x1024, .f32⟩
  | 39 => ⟨S_, .f32⟩
  | 40 => ⟨S8x1x1024x1024, .f32⟩
  | 41 => ⟨S8x1x1024x1024, .f32⟩
  | 42 => ⟨S8x1x1024x1024, .f32⟩
  | 43 => ⟨S8x1x1024x1024, .f32⟩
  | 44 => ⟨S_, .f32⟩
  | 45 => ⟨S8x1x1024x1024, .f32⟩
  | 46 => ⟨S8x1x1024x1024, .f32⟩
  | 47 => ⟨S8x1x1024x1024, .f32⟩
  | 48 => ⟨S8x1x1024x1024, .f32⟩
  | 49 => ⟨S_, .f32⟩
  | 50 => ⟨S8x1x1024x1024, .f32⟩
  | 51 => ⟨S8x1x1024x1024, .f32⟩
  | 52 => ⟨S8x1x1024x1024, .f32⟩
  | 53 => ⟨S8x1x1024x1024, .f32⟩
  | 54 => ⟨S_, .f32⟩
  | 55 => ⟨S8x1x1024x1024, .f32⟩
  | 56 => ⟨S8x1x1024x1024, .f32⟩
  | 57 => ⟨S8x1x1024x1024, .f32⟩
  | 58 => ⟨S8x1x1024x1024, .f32⟩
  | 59 => ⟨S_, .f32⟩
  | 60 => ⟨S8x1x1024x1024, .f32⟩
  | 61 => ⟨S8x1x1024x1024, .f32⟩
  | 62 => ⟨S8x1x1024x1024, .f32⟩
  | 63 => ⟨S8x1x1024x1024, .f32⟩
  | 64 => ⟨S_, .f32⟩
  | 65 => ⟨S8x1x1024x1024, .f32⟩
  | 66 => ⟨S8x1x1024x1024, .f32⟩
  | 67 => ⟨S8x1x1024x1024, .f32⟩
  | 68 => ⟨S8x1x1024x1024, .f32⟩
  | 69 => ⟨S_, .f32⟩
  | 70 => ⟨S8x1x1024x1024, .f32⟩
  | 71 => ⟨S8x1x1024x1024, .f32⟩
  | 72 => ⟨S8x1x1024x1024, .f32⟩
  | 73 => ⟨S8x1x1024x1024, .f32⟩
  | 74 => ⟨S_, .f32⟩
  | 75 => ⟨S8x1x1024x1024, .f32⟩
  | 76 => ⟨S8x1x1024x1024, .f32⟩
  | 77 => ⟨S8x1x1024x1024, .f32⟩
  | 78 => ⟨S8x1x1024x1024, .f32⟩
  | 79 => ⟨S_, .f32⟩
  | 80 => ⟨S8x1x1024x1024, .f32⟩
  | 81 => ⟨S8x1x1024x1024, .f32⟩
  | 82 => ⟨S8x1x1024x1024, .f32⟩
  | 83 => ⟨S8x1x1024x1024, .f32⟩
  | 84 => ⟨S_, .f32⟩
  | 85 => ⟨S8x1x1024x1024, .f32⟩
  | 86 => ⟨S8x1x1024x1024, .f32⟩
  | 87 => ⟨S8x1x1024x1024, .f32⟩
  | 88 => ⟨S8x1x1024x1024, .f32⟩
  | 89 => ⟨S_, .f32⟩
  | 90 => ⟨S8x1x1024x1024, .f32⟩
  | 91 => ⟨S8x1x1024x1024, .f32⟩
  | 92 => ⟨S8x1x1024x1024, .f32⟩
  | 93 => ⟨S_, .f32⟩
  | 94 => ⟨S8x1x1024x1024, .f32⟩
  | 95 => ⟨S8x1x1024x1024, .f32⟩
  | 96 => ⟨S_, .i32⟩
  | 97 => ⟨S_, .f32⟩
  | 98 => ⟨S8x3x1026x1026, .f32⟩
  | 99 => ⟨S8x1x1024x1024, .f32⟩
  | 100 => ⟨S_, .f32⟩
  | 101 => ⟨S8x1x1024x1024, .f32⟩
  | 102 => ⟨S8x1x1024x1024, .f32⟩
  | 103 => ⟨S8x1x1024x1024, .f32⟩
  | 104 => ⟨S_, .f32⟩
  | 105 => ⟨S8x1x1024x1024, .f32⟩
  | 106 => ⟨S8x1x1024x1024, .f32⟩
  | 107 => ⟨S8x1x1024x1024, .f32⟩
  | 108 => ⟨S8x1x1024x1024, .f32⟩
  | 109 => ⟨S_, .f32⟩
  | 110 => ⟨S8x1x1024x1024, .f32⟩
  | 111 => ⟨S8x1x1024x1024, .f32⟩
  | 112 => ⟨S8x1x1024x1024, .f32⟩
  | 113 => ⟨S8x1x1024x1024, .f32⟩
  | 114 => ⟨S_, .f32⟩
  | 115 => ⟨S8x1x1024x1024, .f32⟩
  | 116 => ⟨S8x1x1024x1024, .f32⟩
  | 117 => ⟨S8x1x1024x1024, .f32⟩
  | 118 => ⟨S8x1x1024x1024, .f32⟩
  | 119 => ⟨S_, .f32⟩
  | 120 => ⟨S8x1x1024x1024, .f32⟩
  | 121 => ⟨S8x1x1024x1024, .f32⟩
  | 122 => ⟨S8x1x1024x1024, .f32⟩
  | 123 => ⟨S8x1x1024x1024, .f32⟩
  | 124 => ⟨S_, .f32⟩
  | 125 => ⟨S8x1x1024x1024, .f32⟩
  | 126 => ⟨S8x1x1024x1024, .f32⟩
  | 127 => ⟨S8x1x1024x1024, .f32⟩
  | _ => ⟨S8x3x1024x1024, .f32⟩

abbrev hbmTy0_1 (i : Nat) : BufTy := match i % 128 with
  | 0 => ⟨S8x1x1024x1024, .f32⟩
  | 1 => ⟨S_, .f32⟩
  | 2 => ⟨S8x1x1024x1024, .f32⟩
  | 3 => ⟨S8x1x1024x1024, .f32⟩
  | 4 => ⟨S8x1x1024x1024, .f32⟩
  | 5 => ⟨S8x1x1024x1024, .f32⟩
  | 6 => ⟨S_, .f32⟩
  | 7 => ⟨S8x1x1024x1024, .f32⟩
  | 8 => ⟨S8x1x1024x1024, .f32⟩
  | 9 => ⟨S8x1x1024x1024, .f32⟩
  | 10 => ⟨S8x1x1024x1024, .f32⟩
  | 11 => ⟨S_, .f32⟩
  | 12 => ⟨S8x1x1024x1024, .f32⟩
  | 13 => ⟨S8x1x1024x1024, .f32⟩
  | 14 => ⟨S8x1x1024x1024, .f32⟩
  | 15 => ⟨S8x1x1024x1024, .f32⟩
  | 16 => ⟨S_, .f32⟩
  | 17 => ⟨S8x1x1024x1024, .f32⟩
  | 18 => ⟨S8x1x1024x1024, .f32⟩
  | 19 => ⟨S8x1x1024x1024, .f32⟩
  | 20 => ⟨S8x1x1024x1024, .f32⟩
  | 21 => ⟨S_, .f32⟩
  | 22 => ⟨S8x1x1024x1024, .f32⟩
  | 23 => ⟨S8x1x1024x1024, .f32⟩
  | 24 => ⟨S8x1x1024x1024, .f32⟩
  | 25 => ⟨S8x1x1024x1024, .f32⟩
  | 26 => ⟨S_, .f32⟩
  | 27 => ⟨S8x1x1024x1024, .f32⟩
  | 28 => ⟨S8x1x1024x1024, .f32⟩
  | 29 => ⟨S8x1x1024x1024, .f32⟩
  | 30 => ⟨S8x1x1024x1024, .f32⟩
  | 31 => ⟨S_, .f32⟩
  | 32 => ⟨S8x1x1024x1024, .f32⟩
  | 33 => ⟨S8x1x1024x1024, .f32⟩
  | 34 => ⟨S8x1x1024x1024, .f32⟩
  | 35 => ⟨S8x1x1024x1024, .f32⟩
  | 36 => ⟨S_, .f32⟩
  | 37 => ⟨S8x1x1024x1024, .f32⟩
  | 38 => ⟨S8x1x1024x1024, .f32⟩
  | 39 => ⟨S8x1x1024x1024, .f32⟩
  | 40 => ⟨S8x1x1024x1024, .f32⟩
  | 41 => ⟨S_, .f32⟩
  | 42 => ⟨S8x1x1024x1024, .f32⟩
  | 43 => ⟨S8x1x1024x1024, .f32⟩
  | 44 => ⟨S8x1x1024x1024, .f32⟩
  | 45 => ⟨S8x1x1024x1024, .f32⟩
  | 46 => ⟨S_, .f32⟩
  | 47 => ⟨S8x1x1024x1024, .f32⟩
  | 48 => ⟨S8x1x1024x1024, .f32⟩
  | 49 => ⟨S8x1x1024x1024, .f32⟩
  | 50 => ⟨S8x1x1024x1024, .f32⟩
  | 51 => ⟨S_, .f32⟩
  | 52 => ⟨S8x1x1024x1024, .f32⟩
  | 53 => ⟨S8x1x1024x1024, .f32⟩
  | 54 => ⟨S8x1x1024x1024, .f32⟩
  | 55 => ⟨S8x1x1024x1024, .f32⟩
  | 56 => ⟨S_, .f32⟩
  | 57 => ⟨S8x1x1024x1024, .f32⟩
  | 58 => ⟨S8x1x1024x1024, .f32⟩
  | 59 => ⟨S8x1x1024x1024, .f32⟩
  | 60 => ⟨S_, .f32⟩
  | 61 => ⟨S8x1x1024x1024, .f32⟩
  | 62 => ⟨S8x1x1024x1024, .f32⟩
  | 63 => ⟨S8x1x1024x1024, .f32⟩
  | 64 => ⟨S8x1x1024x1024, .f32⟩
  | 65 => ⟨S8x1x1024x1024, .f32⟩
  | 66 => ⟨S8x1x1024x1024, .f32⟩
  | 67 => ⟨S_, .f32⟩
  | 68 => ⟨S_, .f32⟩
  | 69 => ⟨S_, .f32⟩
  | 70 => ⟨S_, .f32⟩
  | 71 => ⟨S8x1x1024x1024, .f32⟩
  | 72 => ⟨S8x1x1024x1024, .f32⟩
  | 73 => ⟨S_, .f32⟩
  | 74 => ⟨S_, .f32⟩
  | 75 => ⟨S8x1x1024x1024, .f32⟩
  | 76 => ⟨S8x1x1024x1024, .f32⟩
  | 77 => ⟨S_, .f32⟩
  | 78 => ⟨S8x1x1024x1024, .f32⟩
  | 79 => ⟨S8x1x1024x1024, .f32⟩
  | 80 => ⟨S_, .f32⟩
  | 81 => ⟨S8x1x1024x1024, .f32⟩
  | 82 => ⟨S8x1x1024x1024, .f32⟩
  | 83 => ⟨S8x1x1024x1024, .f32⟩
  | 84 => ⟨S_, .f32⟩
  | 85 => ⟨S8x1x1024x1024, .f32⟩
  | 86 => ⟨S8x1x1024x1024, .f32⟩
  | 87 => ⟨S_, .i32⟩
  | 88 => ⟨S_, .f32⟩
  | 89 => ⟨S8x1x1026x1026, .f32⟩
  | 90 => ⟨S8x1x1024x1024, .f32⟩
  | 91 => ⟨S_, .f32⟩
  | 92 => ⟨S8x1x1024x1024, .f32⟩
  | 93 => ⟨S8x1x1024x1024, .f32⟩
  | 94 => ⟨S8x1x1024x1024, .f32⟩
  | 95 => ⟨S_, .f32⟩
  | 96 => ⟨S8x1x1024x1024, .f32⟩
  | 97 => ⟨S8x1x1024x1024, .f32⟩
  | 98 => ⟨S8x1x1024x1024, .f32⟩
  | 99 => ⟨S_, .i32⟩
  | 100 => ⟨S_, .f32⟩
  | 101 => ⟨S8x1x1026x1026, .f32⟩
  | 102 => ⟨S8x1x1024x1024, .f32⟩
  | 103 => ⟨S_, .f32⟩
  | 104 => ⟨S8x1x1024x1024, .f32⟩
  | 105 => ⟨S8x1x1024x1024, .f32⟩
  | 106 => ⟨S8x1x1024x1024, .f32⟩
  | 107 => ⟨S_, .f32⟩
  | 108 => ⟨S8x1x1024x1024, .f32⟩
  | 109 => ⟨S8x1x1024x1024, .f32⟩
  | 110 => ⟨S8x1x1024x1024, .f32⟩
  | 111 => ⟨S_, .i32⟩
  | 112 => ⟨S_, .f32⟩
  | 113 => ⟨S8x1x1026x1026, .f32⟩
  | 114 => ⟨S8x1x1024x1024, .f32⟩
  | 115 => ⟨S_, .f32⟩
  | 116 => ⟨S8x1x1024x1024, .f32⟩
  | 117 => ⟨S8x1x1024x1024, .f32⟩
  | 118 => ⟨S8x1x1024x1024, .f32⟩
  | 119 => ⟨S_, .f32⟩
  | 120 => ⟨S8x1x1024x1024, .f32⟩
  | 121 => ⟨S8x1x1024x1024, .f32⟩
  | 122 => ⟨S8x1x1024x1024, .f32⟩
  | 123 => ⟨S_, .i32⟩
  | 124 => ⟨S_, .f32⟩
  | 125 => ⟨S8x1x1026x1026, .f32⟩
  | 126 => ⟨S8x1x1024x1024, .f32⟩
  | 127 => ⟨S_, .f32⟩
  | _ => ⟨S8x3x1024x1024, .f32⟩

abbrev hbmTy0_2 (i : Nat) : BufTy := match i % 128 with
  | 0 => ⟨S8x1x1024x1024, .f32⟩
  | 1 => ⟨S8x1x1024x1024, .f32⟩
  | 2 => ⟨S8x1x1024x1024, .f32⟩
  | 3 => ⟨S_, .f32⟩
  | 4 => ⟨S8x1x1024x1024, .f32⟩
  | 5 => ⟨S8x1x1024x1024, .f32⟩
  | 6 => ⟨S8x1x1024x1024, .f32⟩
  | 7 => ⟨S_, .i32⟩
  | 8 => ⟨S_, .f32⟩
  | 9 => ⟨S8x1x1026x1026, .f32⟩
  | 10 => ⟨S8x1x1024x1024, .f32⟩
  | 11 => ⟨S_, .f32⟩
  | 12 => ⟨S8x1x1024x1024, .f32⟩
  | 13 => ⟨S8x1x1024x1024, .f32⟩
  | 14 => ⟨S8x1x1024x1024, .f32⟩
  | 15 => ⟨S_, .f32⟩
  | 16 => ⟨S8x1x1024x1024, .f32⟩
  | 17 => ⟨S8x1x1024x1024, .f32⟩
  | 18 => ⟨S8x1x1024x1024, .f32⟩
  | 19 => ⟨S_, .i32⟩
  | 20 => ⟨S_, .f32⟩
  | 21 => ⟨S8x1x1026x1026, .f32⟩
  | 22 => ⟨S8x1x1024x1024, .f32⟩
  | 23 => ⟨S_, .f32⟩
  | 24 => ⟨S8x1x1024x1024, .f32⟩
  | 25 => ⟨S8x1x1024x1024, .f32⟩
  | 26 => ⟨S8x1x1024x1024, .f32⟩
  | 27 => ⟨S_, .f32⟩
  | 28 => ⟨S8x1x1024x1024, .f32⟩
  | 29 => ⟨S8x1x1024x1024, .f32⟩
  | 30 => ⟨S8x1x1024x1024, .f32⟩
  | 31 => ⟨S_, .i32⟩
  | 32 => ⟨S_, .f32⟩
  | 33 => ⟨S8x1x1026x1026, .f32⟩
  | 34 => ⟨S8x1x1024x1024, .f32⟩
  | 35 => ⟨S_, .f32⟩
  | 36 => ⟨S8x1x1024x1024, .f32⟩
  | 37 => ⟨S8x1x1024x1024, .f32⟩
  | 38 => ⟨S8x1x1024x1024, .f32⟩
  | 39 => ⟨S_, .f32⟩
  | 40 => ⟨S8x1x1024x1024, .f32⟩
  | 41 => ⟨S8x1x1024x1024, .f32⟩
  | 42 => ⟨S8x1x1024x1024, .f32⟩
  | 43 => ⟨S_, .i32⟩
  | 44 => ⟨S_, .f32⟩
  | 45 => ⟨S8x1x1026x1026, .f32⟩
  | 46 => ⟨S8x1x1024x1024, .f32⟩
  | 47 => ⟨S_, .f32⟩
  | 48 => ⟨S8x1x1024x1024, .f32⟩
  | 49 => ⟨S8x1x1024x1024, .f32⟩
  | 50 => ⟨S8x1x1024x1024, .f32⟩
  | 51 => ⟨S_, .f32⟩
  | 52 => ⟨S8x1x1024x1024, .f32⟩
  | 53 => ⟨S8x1x1024x1024, .f32⟩
  | 54 => ⟨S8x1x1024x1024, .f32⟩
  | 55 => ⟨S_, .f32⟩
  | 56 => ⟨S8x1x1024x1024, .f32⟩
  | 57 => ⟨S8x1x1024x1024, .f32⟩
  | 58 => ⟨S_, .i32⟩
  | 59 => ⟨S_, .f32⟩
  | 60 => ⟨S8x1x1024x1024, .f32⟩
  | 61 => ⟨S8x1x1024x1024, .f32⟩
  | 62 => ⟨S_, .f32⟩
  | 63 => ⟨S8x1x1024x1024, .f32⟩
  | 64 => ⟨S8x1x1024x1024, .i1⟩
  | 65 => ⟨S_, .f32⟩
  | 66 => ⟨S8x1x1024x1024, .f32⟩
  | 67 => ⟨S8x1x1024x1024, .i1⟩
  | 68 => ⟨S_, .f32⟩
  | 69 => ⟨S_, .i1⟩
  | 70 => ⟨S8x1x1024x1024, .i1⟩
  | 71 => ⟨S8x1x1024x1024, .i1⟩
  | 72 => ⟨S8x1x1024x1024, .i1⟩
  | 73 => ⟨S8x1x1024x1024, .f32⟩
  | 74 => ⟨S8x1x1024x1024, .f32⟩
  | 75 => ⟨S8x1x1024x1024, .f32⟩
  | 76 => ⟨S_, .f32⟩
  | 77 => ⟨S8x1x1024x1024, .f32⟩
  | 78 => ⟨S8x1x1024x1024, .i1⟩
  | 79 => ⟨S_, .f32⟩
  | 80 => ⟨S8x1x1024x1024, .f32⟩
  | 81 => ⟨S8x1x1024x1024, .i1⟩
  | 82 => ⟨S8x1x1024x1024, .i1⟩
  | 83 => ⟨S8x1x1024x1024, .f32⟩
  | 84 => ⟨S_, .f32⟩
  | 85 => ⟨S8x1x1024x1024, .f32⟩
  | 86 => ⟨S8x1x1024x1024, .i1⟩
  | 87 => ⟨S8x1x1024x1024, .i1⟩
  | 88 => ⟨S8x1x1024x1024, .i1⟩
  | 89 => ⟨S_, .f32⟩
  | 90 => ⟨S_, .f32⟩
  | 91 => ⟨S8x1x1024x1024, .f32⟩
  | 92 => ⟨S8x1x1024x1024, .f32⟩
  | 93 => ⟨S_, .f32⟩
  | 94 => ⟨S8x1x1024x1024, .f32⟩
  | 95 => ⟨S8x1x1024x1024, .i1⟩
  | 96 => ⟨S_, .f32⟩
  | 97 => ⟨S8x1x1024x1024, .f32⟩
  | 98 => ⟨S8x1x1024x1024, .i1⟩
  | 99 => ⟨S8x1x1024x1024, .i1⟩
  | 100 => ⟨S8x1x1024x1024, .f32⟩
  | 101 => ⟨S_, .f32⟩
  | 102 => ⟨S8x1x1024x1024, .f32⟩
  | 103 => ⟨S8x1x1024x1024, .i1⟩
  | 104 => ⟨S8x1x1024x1024, .i1⟩
  | 105 => ⟨S8x1x1024x1024, .i1⟩
  | 106 => ⟨S_, .f32⟩
  | 107 => ⟨S_, .f32⟩
  | 108 => ⟨S8x1x1024x1024, .f32⟩
  | 109 => ⟨S8x1x1024x1024, .f32⟩
  | 110 => ⟨S_, .f32⟩
  | 111 => ⟨S8x1x1024x1024, .f32⟩
  | 112 => ⟨S8x1x1024x1024, .i1⟩
  | 113 => ⟨S_, .f32⟩
  | 114 => ⟨S8x1x1024x1024, .f32⟩
  | 115 => ⟨S8x1x1024x1024, .i1⟩
  | 116 => ⟨S8x1x1024x1024, .i1⟩
  | 117 => ⟨S8x1x1024x1024, .f32⟩
  | 118 => ⟨S_, .f32⟩
  | 119 => ⟨S8x1x1024x1024, .f32⟩
  | 120 => ⟨S8x1x1024x1024, .i1⟩
  | 121 => ⟨S8x1x1024x1024, .i1⟩
  | 122 => ⟨S8x1x1024x1024, .i1⟩
  | 123 => ⟨S_, .f32⟩
  | 124 => ⟨S_, .f32⟩
  | 125 => ⟨S8x1x1024x1024, .f32⟩
  | 126 => ⟨S8x1x1024x1024, .f32⟩
  | 127 => ⟨S_, .f32⟩
  | _ => ⟨S8x3x1024x1024, .f32⟩

abbrev hbmTy0_3 (i : Nat) : BufTy := match i % 128 with
  | 0 => ⟨S8x1x1024x1024, .f32⟩
  | 1 => ⟨S8x1x1024x1024, .i1⟩
  | 2 => ⟨S_, .f32⟩
  | 3 => ⟨S8x1x1024x1024, .f32⟩
  | 4 => ⟨S8x1x1024x1024, .i1⟩
  | 5 => ⟨S8x1x1024x1024, .i1⟩
  | 6 => ⟨S8x1x1024x1024, .f32⟩
  | 7 => ⟨S_, .f32⟩
  | 8 => ⟨S8x1x1024x1024, .f32⟩
  | 9 => ⟨S8x1x1024x1024, .i1⟩
  | 10 => ⟨S8x1x1024x1024, .i1⟩
  | 11 => ⟨S8x1x1024x1024, .i1⟩
  | 12 => ⟨S_, .f32⟩
  | 13 => ⟨S_, .f32⟩
  | 14 => ⟨S8x1x1024x1024, .f32⟩
  | 15 => ⟨S8x1x1024x1024, .f32⟩
  | 16 => ⟨S_, .f32⟩
  | 17 => ⟨S8x1x1024x1024, .f32⟩
  | 18 => ⟨S8x1x1024x1024, .i1⟩
  | 19 => ⟨S8x1x1024x1024, .f32⟩
  | 20 => ⟨S_, .f32⟩
  | 21 => ⟨S8x1x1024x1024, .f32⟩
  | 22 => ⟨S8x1x1024x1024, .i1⟩
  | 23 => ⟨S8x1x1024x1024, .f32⟩
  | 24 => ⟨S_, .f32⟩
  | 25 => ⟨S8x1x1024x1024, .f32⟩
  | 26 => ⟨S8x1x1024x1024, .f32⟩
  | 27 => ⟨S_, .f32⟩
  | 28 => ⟨S8x1x1024x1024, .f32⟩
  | 29 => ⟨S8x1x1024x1024, .f32⟩
  | 30 => ⟨S8x1x1024x1024, .f32⟩
  | 31 => ⟨S_, .f32⟩
  | 32 => ⟨S8x1x1024x1024, .f32⟩
  | 33 => ⟨S8x1x1024x1024, .i1⟩
  | 34 => ⟨S_, .i32⟩
  | 35 => ⟨S_, .f32⟩
  | 36 => ⟨S8x1x1026x1026, .f32⟩
  | 37 => ⟨S8x1x1024x1024, .f32⟩
  | 38 => ⟨S_, .f32⟩
  | 39 => ⟨S8x1x1024x1024, .f32⟩
  | 40 => ⟨S8x1x1024x1024, .f32⟩
  | 41 => ⟨S8x1x1024x1024, .f32⟩
  | 42 => ⟨S_, .f32⟩
  | 43 => ⟨S8x1x1024x1024, .f32⟩
  | 44 => ⟨S8x1x1024x1024, .f32⟩
  | 45 => ⟨S8x1x1024x1024, .f32⟩
  | 46 => ⟨S8x1x1024x1024, .f32⟩
  | 47 => ⟨S_, .f32⟩
  | 48 => ⟨S8x1x1024x1024, .f32⟩
  | 49 => ⟨S8x1x1024x1024, .f32⟩
  | 50 => ⟨S8x1x1024x1024, .f32⟩
  | 51 => ⟨S8x1x1024x1024, .f32⟩
  | 52 => ⟨S_, .f32⟩
  | 53 => ⟨S8x1x1024x1024, .f32⟩
  | 54 => ⟨S8x1x1024x1024, .f32⟩
  | 55 => ⟨S8x1x1024x1024, .f32⟩
  | 56 => ⟨S8x1x1024x1024, .f32⟩
  | 57 => ⟨S_, .f32⟩
  | 58 => ⟨S8x1x1024x1024, .f32⟩
  | 59 => ⟨S8x1x1024x1024, .f32⟩
  | 60 => ⟨S8x1x1024x1024, .f32⟩
  | 61 => ⟨S8x1x1024x1024, .f32⟩
  | 62 => ⟨S_, .f32⟩
  | 63 => ⟨S8x1x1024x1024, .f32⟩
  | 64 => ⟨S8x1x1024x1024, .f32⟩
  | 65 => ⟨S8x1x1024x1024, .f32⟩
  | 66 => ⟨S8x1x1024x1024, .f32⟩
  | 67 => ⟨S_, .f32⟩
  | 68 => ⟨S8x1x1024x1024, .f32⟩
  | 69 => ⟨S8x1x1024x1024, .f32⟩
  | 70 => ⟨S8x1x1024x1024, .f32⟩
  | 71 => ⟨S8x1x1024x1024, .f32⟩
  | 72 => ⟨S_, .f32⟩
  | 73 => ⟨S8x1x1024x1024, .f32⟩
  | 74 => ⟨S8x1x1024x1024, .f32⟩
  | 75 => ⟨S8x1x1024x1024, .f32⟩
  | 76 => ⟨S8x1x1024x1024, .f32⟩
  | 77 => ⟨S_, .f32⟩
  | 78 => ⟨S8x1x1024x1024, .f32⟩
  | 79 => ⟨S8x1x1024x1024, .f32⟩
  | 80 => ⟨S8x1x1024x1024, .f32⟩
  | 81 => ⟨S_, .f32⟩
  | 82 => ⟨S8x1x1024x1024, .f32⟩
  | 83 => ⟨S8x1x1024x1024, .i1⟩
  | 84 => ⟨S8x1x1024x1024, .i1⟩
  | 85 => ⟨S8x1x1024x1024, .f32⟩
  | 86 => ⟨S8x1x1024x1024, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_c_18 : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_20 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_22 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_23 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_24 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_25 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_26 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_27 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_28 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_29 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_30 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_31 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_32 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_33 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_34 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_35 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_36 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_37 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_38 : Ref sig .tc := ⟨.hbm, 195, rfl⟩
abbrev main_v152 : Ref sig .tc := ⟨.hbm, 196, rfl⟩
abbrev main_cst_39 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_40 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_41 : Ref sig .tc := ⟨.hbm, 205, rfl⟩
abbrev main_v159 : Ref sig .tc := ⟨.hbm, 206, rfl⟩
abbrev main_v160 : Ref sig .tc := ⟨.hbm, 207, rfl⟩
abbrev main_cst_42 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_cst_43 : Ref sig .tc := ⟨.hbm, 212, rfl⟩
abbrev main_v164 : Ref sig .tc := ⟨.hbm, 213, rfl⟩
abbrev main_v165 : Ref sig .tc := ⟨.hbm, 214, rfl⟩
abbrev main_c_44 : Ref sig .tc := ⟨.hbm, 215, rfl⟩
abbrev main_call3_v0 : Ref sig .tc := ⟨.hbm, 216, rfl⟩
abbrev main_v166 : Ref sig .tc := ⟨.hbm, 217, rfl⟩
abbrev main_v167 : Ref sig .tc := ⟨.hbm, 218, rfl⟩
abbrev main_cst_45 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_46 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_c_47 : Ref sig .tc := ⟨.hbm, 227, rfl⟩
abbrev main_call4_v0 : Ref sig .tc := ⟨.hbm, 228, rfl⟩
abbrev main_v174 : Ref sig .tc := ⟨.hbm, 229, rfl⟩
abbrev main_v175 : Ref sig .tc := ⟨.hbm, 230, rfl⟩
abbrev main_cst_48 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_49 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_c_50 : Ref sig .tc := ⟨.hbm, 239, rfl⟩
abbrev main_call5_v0 : Ref sig .tc := ⟨.hbm, 240, rfl⟩
abbrev main_v182 : Ref sig .tc := ⟨.hbm, 241, rfl⟩
abbrev main_v183 : Ref sig .tc := ⟨.hbm, 242, rfl⟩
abbrev main_cst_51 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_52 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_c_53 : Ref sig .tc := ⟨.hbm, 251, rfl⟩
abbrev main_call6_v0 : Ref sig .tc := ⟨.hbm, 252, rfl⟩
abbrev main_v190 : Ref sig .tc := ⟨.hbm, 253, rfl⟩
abbrev main_v191 : Ref sig .tc := ⟨.hbm, 254, rfl⟩
abbrev main_cst_54 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_cst_55 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_c_56 : Ref sig .tc := ⟨.hbm, 263, rfl⟩
abbrev main_call7_v0 : Ref sig .tc := ⟨.hbm, 264, rfl⟩
abbrev main_v198 : Ref sig .tc := ⟨.hbm, 265, rfl⟩
abbrev main_v199 : Ref sig .tc := ⟨.hbm, 266, rfl⟩
abbrev main_cst_57 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_cst_58 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_c_59 : Ref sig .tc := ⟨.hbm, 275, rfl⟩
abbrev main_call8_v0 : Ref sig .tc := ⟨.hbm, 276, rfl⟩
abbrev main_v206 : Ref sig .tc := ⟨.hbm, 277, rfl⟩
abbrev main_v207 : Ref sig .tc := ⟨.hbm, 278, rfl⟩
abbrev main_cst_60 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_cst_61 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_c_62 : Ref sig .tc := ⟨.hbm, 287, rfl⟩
abbrev main_call9_v0 : Ref sig .tc := ⟨.hbm, 288, rfl⟩
abbrev main_v214 : Ref sig .tc := ⟨.hbm, 289, rfl⟩
abbrev main_v215 : Ref sig .tc := ⟨.hbm, 290, rfl⟩
abbrev main_cst_63 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_cst_64 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_c_65 : Ref sig .tc := ⟨.hbm, 299, rfl⟩
abbrev main_call10_v0 : Ref sig .tc := ⟨.hbm, 300, rfl⟩
abbrev main_v222 : Ref sig .tc := ⟨.hbm, 301, rfl⟩
abbrev main_v223 : Ref sig .tc := ⟨.hbm, 302, rfl⟩
abbrev main_cst_66 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_cst_67 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_cst_68 : Ref sig .tc := ⟨.hbm, 311, rfl⟩
abbrev main_v230 : Ref sig .tc := ⟨.hbm, 312, rfl⟩
abbrev main_v231 : Ref sig .tc := ⟨.hbm, 313, rfl⟩
abbrev main_c_69 : Ref sig .tc := ⟨.hbm, 314, rfl⟩
abbrev main_call11_v0 : Ref sig .tc := ⟨.hbm, 315, rfl⟩
abbrev main_call11_v1 : Ref sig .tc := ⟨.hbm, 316, rfl⟩
abbrev main_call11_v2 : Ref sig .tc := ⟨.hbm, 317, rfl⟩
abbrev main_call11_cst : Ref sig .tc := ⟨.hbm, 318, rfl⟩
abbrev main_call11_v3 : Ref sig .tc := ⟨.hbm, 319, rfl⟩
abbrev main_call11_v4 : Ref sig .tc := ⟨.hbm, 320, rfl⟩
abbrev main_call11_cst_0 : Ref sig .tc := ⟨.hbm, 321, rfl⟩
abbrev main_call11_v5 : Ref sig .tc := ⟨.hbm, 322, rfl⟩
abbrev main_call11_v6 : Ref sig .tc := ⟨.hbm, 323, rfl⟩
abbrev main_call11_cst_1 : Ref sig .tc := ⟨.hbm, 324, rfl⟩
abbrev main_call11_v7 : Ref sig .tc := ⟨.hbm, 325, rfl⟩
abbrev main_call11_v8 : Ref sig .tc := ⟨.hbm, 326, rfl⟩
abbrev main_call11_v9 : Ref sig .tc := ⟨.hbm, 327, rfl⟩
abbrev main_call11_v10 : Ref sig .tc := ⟨.hbm, 328, rfl⟩
abbrev main_call11_v11 : Ref sig .tc := ⟨.hbm, 329, rfl⟩
abbrev main_call11_v12 : Ref sig .tc := ⟨.hbm, 330, rfl⟩
abbrev main_v232 : Ref sig .tc := ⟨.hbm, 331, rfl⟩
abbrev main_cst_70 : Ref sig .tc := ⟨.hbm, 332, rfl⟩
abbrev main_v233 : Ref sig .tc := ⟨.hbm, 333, rfl⟩
abbrev main_v234 : Ref sig .tc := ⟨.hbm, 334, rfl⟩
abbrev main_cst_71 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_cst_72 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_cst_73 : Ref sig .tc := ⟨.hbm, 345, rfl⟩
abbrev main_call12_v0 : Ref sig .tc := ⟨.hbm, 346, rfl⟩
abbrev main_call12_v1 : Ref sig .tc := ⟨.hbm, 347, rfl⟩
abbrev main_v243 : Ref sig .tc := ⟨.hbm, 348, rfl⟩
abbrev main_cst_74 : Ref sig .tc := ⟨.hbm, 349, rfl⟩
abbrev main_v244 : Ref sig .tc := ⟨.hbm, 350, rfl⟩
abbrev main_v245 : Ref sig .tc := ⟨.hbm, 351, rfl⟩
abbrev main_cst_75 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_cst_76 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_cst_77 : Ref sig .tc := ⟨.hbm, 362, rfl⟩
abbrev main_call13_v0 : Ref sig .tc := ⟨.hbm, 363, rfl⟩
abbrev main_call13_v1 : Ref sig .tc := ⟨.hbm, 364, rfl⟩
abbrev main_v254 : Ref sig .tc := ⟨.hbm, 365, rfl⟩
abbrev main_cst_78 : Ref sig .tc := ⟨.hbm, 366, rfl⟩
abbrev main_v255 : Ref sig .tc := ⟨.hbm, 367, rfl⟩
abbrev main_v256 : Ref sig .tc := ⟨.hbm, 368, rfl⟩
abbrev main_cst_79 : Ref sig .tc := ⟨.hbm, 369, rfl⟩
abbrev main_v257 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_cst_80 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_cst_81 : Ref sig .tc := ⟨.hbm, 379, rfl⟩
abbrev main_call14_v0 : Ref sig .tc := ⟨.hbm, 380, rfl⟩
abbrev main_call14_v1 : Ref sig .tc := ⟨.hbm, 381, rfl⟩
abbrev main_v265 : Ref sig .tc := ⟨.hbm, 382, rfl⟩
abbrev main_cst_82 : Ref sig .tc := ⟨.hbm, 383, rfl⟩
abbrev main_v266 : Ref sig .tc := ⟨.hbm, 384, rfl⟩
abbrev main_v267 : Ref sig .tc := ⟨.hbm, 385, rfl⟩
abbrev main_cst_83 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_cst_84 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_cst_85 : Ref sig .tc := ⟨.hbm, 396, rfl⟩
abbrev main_call15_v0 : Ref sig .tc := ⟨.hbm, 397, rfl⟩
abbrev main_call15_v1 : Ref sig .tc := ⟨.hbm, 398, rfl⟩
abbrev main_v276 : Ref sig .tc := ⟨.hbm, 399, rfl⟩
abbrev main_cst_86 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_cst_87 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_cst_88 : Ref sig .tc := ⟨.hbm, 408, rfl⟩
abbrev main_v283 : Ref sig .tc := ⟨.hbm, 409, rfl⟩
abbrev main_v284 : Ref sig .tc := ⟨.hbm, 410, rfl⟩
abbrev main_cst_89 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_cst_90 : Ref sig .tc := ⟨.hbm, 415, rfl⟩
abbrev main_v288 : Ref sig .tc := ⟨.hbm, 416, rfl⟩
abbrev main_v289 : Ref sig .tc := ⟨.hbm, 417, rfl⟩
abbrev main_c_91 : Ref sig .tc := ⟨.hbm, 418, rfl⟩
abbrev main_call16_v0 : Ref sig .tc := ⟨.hbm, 419, rfl⟩
abbrev main_v290 : Ref sig .tc := ⟨.hbm, 420, rfl⟩
abbrev main_v291 : Ref sig .tc := ⟨.hbm, 421, rfl⟩
abbrev main_cst_92 : Ref sig .tc := ⟨.hbm, 422, rfl⟩
abbrev main_v292 : Ref sig .tc := ⟨.hbm, 423, rfl⟩
abbrev main_v293 : Ref sig .tc := ⟨.hbm, 424, rfl⟩
abbrev main_v294 : Ref sig .tc := ⟨.hbm, 425, rfl⟩
abbrev main_cst_93 : Ref sig .tc := ⟨.hbm, 426, rfl⟩
abbrev main_v295 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_cst_94 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_cst_95 : Ref sig .tc := ⟨.hbm, 436, rfl⟩
abbrev main_v303 : Ref sig .tc := ⟨.hbm, 437, rfl⟩
abbrev main_v304 : Ref sig .tc := ⟨.hbm, 438, rfl⟩
abbrev main_v305 : Ref sig .tc := ⟨.hbm, 439, rfl⟩
abbrev main_v306 : Ref sig .tc := ⟨.hbm, 440, rfl⟩
abbrev main_cst_96 : Ref sig .tc := ⟨.hbm, 441, rfl⟩
abbrev main_v307 : Ref sig .tc := ⟨.hbm, 442, rfl⟩
abbrev main_v308 : Ref sig .tc := ⟨.hbm, 443, rfl⟩
abbrev main_v309 : Ref sig .tc := ⟨.hbm, 444, rfl⟩
abbrev main_v310 : Ref sig .tc := ⟨.hbm, 445, rfl⟩
abbrev main_cst_97 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_cst_98 : Ref sig .tc := ⟨.hbm, 451, rfl⟩
abbrev main_v315 : Ref sig .tc := ⟨.hbm, 452, rfl⟩
abbrev main_v316 : Ref sig .tc := ⟨.hbm, 453, rfl⟩
abbrev main_v317 : Ref sig .tc := ⟨.hbm, 454, rfl⟩
abbrev main_v318 : Ref sig .tc := ⟨.hbm, 455, rfl⟩
abbrev main_cst_99 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_v322 : Ref sig .tc := ⟨.hbm, 460, rfl⟩
abbrev main_cst_100 : Ref sig .tc := ⟨.hbm, 461, rfl⟩
abbrev main_v323 : Ref sig .tc := ⟨.hbm, 462, rfl⟩
abbrev main_v324 : Ref sig .tc := ⟨.hbm, 463, rfl⟩
abbrev main_v325 : Ref sig .tc := ⟨.hbm, 464, rfl⟩
abbrev main_cst_101 : Ref sig .tc := ⟨.hbm, 465, rfl⟩
abbrev main_v326 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩
abbrev main_v330 : Ref sig .tc := ⟨.hbm, 470, rfl⟩

abbrev nD : Nat := 1
abbrev τ : Topo := Topo.v7x

variable {F : FTy → Type} [FloatOps F]
-- ==== Proof.Angle.lean ====
/- Where the arctangent of a slope lies between the odd multiples of π/16, and the whole number
nearest to a real. -/
module

public import Idealize.ShloMosaic.PureOps.Ideal
public import Mathlib.Analysis.SpecialFunctions.Trigonometric.Arctan
public import Mathlib.Tactic.Linarith
public import Mathlib.Tactic.NormNum
public import Mathlib.Tactic.FieldSimp
public import Mathlib.Tactic.Ring
public import Mathlib.Tactic.Positivity

@[expose] public section

noncomputable section

namespace Cert.Canny

open Real

/-- The tangent of π/16 between two rationals. -/
theorem tan_sixteenth :
    (0.1989123673 : ℝ) < tan (π / 16) ∧ tan (π / 16) < (0.1989123674 : ℝ) := by
  rw [tan_eq_sin_div_cos, sin_pi_div_sixteen, cos_pi_div_sixteen]
  have h2 : (0 : ℝ) ≤ 2 := by norm_num
  have a1 : (1.4142135623730 : ℝ) < √2 := by
    rw [lt_sqrt (by norm_num)]; norm_num
  have a2 : √2 < (1.4142135623731 : ℝ) := by
    rw [sqrt_lt' (by norm_num)]; norm_num
  have b1 : (1.84775906502 : ℝ) < √(2 + √2) := by
    rw [lt_sqrt (by norm_num)]; norm_num at a1 ⊢; linarith
  have b2 : √(2 + √2) < (1.84775906503 : ℝ) := by
    rw [sqrt_lt' (by norm_num)]; norm_num at a2 ⊢; linarith
  have c0 : (0 : ℝ) < √(2 + √(2 + √2)) := sqrt_pos.mpr (by linarith)
  have e : √(2 - √(2 + √2)) / 2 / (√(2 + √(2 + √2)) / 2)
      = √((2 - √(2 + √2)) / (2 + √(2 + √2))) := by
    rw [sqrt_div (by linarith)]; field_simp
  rw [e]
  constructor
  · rw [lt_sqrt (by norm_num), lt_div_iff₀ (by linarith)]; norm_num at b2 ⊢; linarith
  · rw [sqrt_lt' (by norm_num), div_lt_iff₀ (by linarith)]; norm_num at b1 ⊢; linarith

theorem tan_three_sixteenths :
    (0.668178637 : ℝ) < tan (3 * π / 16) ∧ tan (3 * π / 16) < (0.668178639 : ℝ) := by
  obtain ⟨h1, h2⟩ := tan_sixteenth
  have e : tan (3 * π / 16) = (1 - tan (π / 16)) / (1 + tan (π / 16)) := by
    have hc : cos (π / 16) ≠ 0 := (cos_pos_of_mem_Ioo ⟨by linarith [pi_pos], by linarith [pi_pos]⟩).ne'
    have h : 3 * π / 16 = π / 4 - π / 16 := by ring
    rw [h, tan_eq_sin_div_cos, tan_eq_sin_div_cos, sin_sub, cos_sub, sin_pi_div_four,
      cos_pi_div_four]
    have hs : √2 ≠ 0 := by positivity
    have hd : cos (π / 16) + sin (π / 16) ≠ 0 := by
      have : 0 < cos (π / 16) := cos_pos_of_mem_Ioo ⟨by linarith [pi_pos], by linarith [pi_pos]⟩
      have : 0 < sin (π / 16) := sin_pos_of_pos_of_lt_pi (by positivity) (by linarith [pi_pos])
      positivity
    rw [show √2 / 2 * cos (π / 16) - √2 / 2 * sin (π / 16)
        = (√2 / 2) * (cos (π / 16) - sin (π / 16)) by ring,
      show √2 / 2 * cos (π / 16) + √2 / 2 * sin (π / 16)
        = (√2 / 2) * (cos (π / 16) + sin (π / 16)) by ring,
      mul_div_mul_left _ _ (by positivity)]
    field_simp
  rw [e]
  constructor
  · rw [lt_div_iff₀ (by linarith)]; linarith
  · rw [div_lt_iff₀ (by linarith)]; linarith

theorem tan_five_sixteenths :
    (1.49660576 : ℝ) < tan (5 * π / 16) ∧ tan (5 * π / 16) < (1.49660577 : ℝ) := by
  obtain ⟨h1, h2⟩ := tan_three_sixteenths
  rw [show 5 * π / 16 = π / 2 - 3 * π / 16 by ring, tan_pi_div_two_sub]
  have h0 : 0 < tan (3 * π / 16) := by linarith
  constructor
  · rw [lt_inv_comm₀ (by norm_num) h0]; norm_num at h2 ⊢; linarith
  · rw [inv_lt_comm₀ h0 (by norm_num)]; norm_num at h1 ⊢; linarith

theorem tan_seven_sixteenths :
    (5.02733948 : ℝ) < tan (7 * π / 16) ∧ tan (7 * π / 16) < (5.02733950 : ℝ) := by
  obtain ⟨h1, h2⟩ := tan_sixteenth
  rw [show 7 * π / 16 = π / 2 - π / 16 by ring, tan_pi_div_two_sub]
  have h0 : 0 < tan (π / 16) := by linarith
  constructor
  · rw [lt_inv_comm₀ (by norm_num) h0]; norm_num at h2 ⊢; linarith
  · rw [inv_lt_comm₀ h0 (by norm_num)]; norm_num at h1 ⊢; linarith

/-- A slope below the tangent of an angle has its arctangent below that angle, a slope above it,
above. -/
theorem arctan_side {θ : ℝ} (h0 : -(π / 2) < θ) (h1 : θ < π / 2) (a : ℝ) :
    (a < tan θ → arctan a < θ) ∧ (tan θ < a → θ < arctan a) := by
  constructor
  · intro h
    have := arctan_strictMono h
    rwa [arctan_tan h0 h1] at this
  · intro h
    have := arctan_strictMono h
    rwa [arctan_tan h0 h1] at this

/-- A real less than a half away from a whole number is rounded to it. -/
theorem roundHalfEven_near (r : ℝ) (n : ℤ) (h0 : (n : ℝ) - 1 / 2 < r) (h1 : r < n + 1 / 2) :
    Idealize.ShloMosaic.Ideal.roundHalfEven r = n := by
  unfold Idealize.ShloMosaic.Ideal.roundHalfEven
  rcases lt_or_ge r n with h | h
  · have hf : ⌊r⌋ = n - 1 := by
      rw [Int.floor_eq_iff]; push_cast; constructor <;> linarith
    simp only [hf]; push_cast
    rw [if_neg (by linarith), if_pos (by linarith)]
    ring
  · have hf : ⌊r⌋ = n := by
      rw [Int.floor_eq_iff]; constructor <;> linarith
    simp only [hf]
    rw [if_pos (by linarith)]

end Cert.Canny

end
-- ==== Proof.Consts.lean ====
/- The constants of the kernel, of the reference and of the mask, as the reals they denote. -/
module

public import Idealize.ShloMosaic.PureOps.Ideal
public import Mathlib.Tactic.NormNum

@[expose] public section

noncomputable section

namespace Cert.Canny

open Idealize.ShloMosaic

theorem ofBits_half : Ideal.ofBits .f32 0x3F000000#32 = ((1 / 2 : ℝ) : EReal) := by
  simp [Ideal.ofBits, Ideal.ieee]; rw [← EReal.coe_mul]; norm_num

theorem ofBits_neg_half : Ideal.ofBits .f32 0xBF000000#32 = ((-1 / 2 : ℝ) : EReal) := by
  simp [Ideal.ofBits, Ideal.ieee]; rw [← EReal.coe_mul]; norm_num

theorem ofBits_neg_one : Ideal.ofBits .f32 0xBF800000#32 = ((-1 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_three : Ideal.ofBits .f32 0x40400000#32 = ((3 : ℝ) : EReal) := by
  simp [Ideal.ofBits, Ideal.ieee]; rw [← EReal.coe_mul]; norm_num

theorem ofBits_four : Ideal.ofBits .f32 0x40800000#32 = ((4 : ℝ) : EReal) := by
  simp [Ideal.ofBits, Ideal.ieee]; rw [← EReal.coe_mul]; norm_num

theorem ofBits_five : Ideal.ofBits .f32 0x40A00000#32 = ((5 : ℝ) : EReal) := by
  simp [Ideal.ofBits, Ideal.ieee]; rw [← EReal.coe_mul]; norm_num

theorem ofBits_six : Ideal.ofBits .f32 0x40C00000#32 = ((6 : ℝ) : EReal) := by
  simp [Ideal.ofBits, Ideal.ieee]; rw [← EReal.coe_mul]; norm_num

theorem ofBits_seven : Ideal.ofBits .f32 0x40E00000#32 = ((7 : ℝ) : EReal) := by
  simp [Ideal.ofBits, Ideal.ieee]; rw [← EReal.coe_mul]; norm_num

theorem ofBits_five_quarters : Ideal.ofBits .f32 0x3FA00000#32 = ((5 / 4 : ℝ) : EReal) := by
  simp [Ideal.ofBits, Ideal.ieee]; rw [← EReal.coe_mul]; norm_num

theorem ofBits_fortyfive : Ideal.ofBits .f32 0x42340000#32 = ((45 : ℝ) : EReal) := by
  simp [Ideal.ofBits, Ideal.ieee]; rw [← EReal.coe_mul]; norm_num

theorem ofBits_onehundredeighty : Ideal.ofBits .f32 0x43340000#32 = ((180 : ℝ) : EReal) := by
  simp [Ideal.ofBits, Ideal.ieee]; rw [← EReal.coe_mul]; norm_num

theorem ofBits_threehundredsixty : Ideal.ofBits .f32 0x43B40000#32 = ((360 : ℝ) : EReal) := by
  simp [Ideal.ofBits, Ideal.ieee]; rw [← EReal.coe_mul]; norm_num

theorem ofBits_t1 : Ideal.ofBits .f32 0x3E4BAFAF#32 = ((13348783 / 67108864 : ℝ) : EReal) := by
  simp [Ideal.ofBits, Ideal.ieee]; rw [← EReal.coe_mul]; norm_num

theorem ofBits_t2 : Ideal.ofBits .f32 0x3F2B0DC1#32 = ((11210177 / 16777216 : ℝ) : EReal) := by
  simp [Ideal.ofBits, Ideal.ieee]; rw [← EReal.coe_mul]; norm_num

theorem ofBits_t3 : Ideal.ofBits .f32 0x3FBF90C7#32 = ((12554439 / 8388608 : ℝ) : EReal) := by
  simp [Ideal.ofBits, Ideal.ieee]; rw [← EReal.coe_mul]; norm_num

theorem ofBits_t4 : Ideal.ofBits .f32 0x40A0DFF7#32 = ((10543095 / 2097152 : ℝ) : EReal) := by
  simp [Ideal.ofBits, Ideal.ieee]; rw [← EReal.coe_mul]; norm_num

theorem ofBits_lo1 : Ideal.ofBits .f32 0x3E4BAF6F#32 = ((13348719 / 67108864 : ℝ) : EReal) := by
  simp [Ideal.ofBits, Ideal.ieee]; rw [← EReal.coe_mul]; norm_num

theorem ofBits_lo2 : Ideal.ofBits .f32 0x3F2B0DB1#32 = ((11210161 / 16777216 : ℝ) : EReal) := by
  simp [Ideal.ofBits, Ideal.ieee]; rw [← EReal.coe_mul]; norm_num

theorem ofBits_lo3 : Ideal.ofBits .f32 0x3FBF90BF#32 = ((12554431 / 8388608 : ℝ) : EReal) := by
  simp [Ideal.ofBits, Ideal.ieee]; rw [← EReal.coe_mul]; norm_num

theorem ofBits_lo4 : Ideal.ofBits .f32 0x40A0DFF5#32 = ((10543093 / 2097152 : ℝ) : EReal) := by
  simp [Ideal.ofBits, Ideal.ieee]; rw [← EReal.coe_mul]; norm_num

theorem ofBits_hi1 : Ideal.ofBits .f32 0x3E4BAFEF#32 = ((13348847 / 67108864 : ℝ) : EReal) := by
  simp [Ideal.ofBits, Ideal.ieee]; rw [← EReal.coe_mul]; norm_num

theorem ofBits_hi2 : Ideal.ofBits .f32 0x3F2B0DD1#32 = ((11210193 / 16777216 : ℝ) : EReal) := by
  simp [Ideal.ofBits, Ideal.ieee]; rw [← EReal.coe_mul]; norm_num

theorem ofBits_hi3 : Ideal.ofBits .f32 0x3FBF90CF#32 = ((12554447 / 8388608 : ℝ) : EReal) := by
  simp [Ideal.ofBits, Ideal.ieee]; rw [← EReal.coe_mul]; norm_num

theorem ofBits_hi4 : Ideal.ofBits .f32 0x40A0DFF9#32 = ((10543097 / 2097152 : ℝ) : EReal) := by
  simp [Ideal.ofBits, Ideal.ieee]; rw [← EReal.coe_mul]; norm_num

theorem ofBits_top : Ideal.ofBits .f32 0x7F800000#32 = (⊤ : EReal) := by
  simp [Ideal.ofBits, Ideal.ieee]

end Cert.Canny

end
-- ==== Proof.Sector.lean ====
/- Which of the eight directions a slope has: by comparisons with four thresholds, and by rounding
its arctangent. The two agree away from the odd multiples of π/16. -/
module

public import proofs.«01_k».proof.Proof.Angle
public import proofs.«01_k».proof.Proof.Consts
public import Mathlib.Tactic.IntervalCases

@[expose] public section

noncomputable section

namespace Cert.Canny

open Idealize.ShloMosaic

/-- The threshold number `j` (from 1) the slopes are compared with. -/
def thr : ℕ → ℝ
  | 1 => 13348783 / 67108864
  | 2 => 11210177 / 16777216
  | 3 => 12554439 / 8388608
  | _ => 10543095 / 2097152

/-- The size of a slope is above threshold `j`. -/
def Above (j : ℕ) (t : EReal) : Prop := (thr j : EReal) < max t (-t)

open Classical in
/-- How many thresholds the size of a slope is above, with the sign of the slope. -/
def turn (t : EReal) : ℤ :=
  let u : ℤ := (if Above 1 t then 1 else 0) + (if Above 2 t then 1 else 0)
    + (if Above 3 t then 1 else 0) + (if Above 4 t then 1 else 0)
  if t < 0 then -u else u

/-- The direction of a slope among the eight. -/
def pos (t : EReal) : ℕ := ((4 + turn t) % 8).toNat

/-- The direction of a slope before it is taken modulo 8, by rounding its arctangent. -/
def step (t : EReal) : EReal :=
  Ideal.liftRound Ideal.roundHalfEven
    (Ideal.div (Ideal.atan t * Ideal.div ((360 : ℝ) : EReal) (((4 : ℝ) : EReal) * Ideal.atan 1)
      + ((180 : ℝ) : EReal)) ((45 : ℝ) : EReal))

/-- A size of slope is outside the margins about the four parting slopes. -/
structure OffSize (a : EReal) : Prop where
  one : a < ((13348719 / 67108864 : ℝ) : EReal) ∨ ((13348847 / 67108864 : ℝ) : EReal) < a
  two : a < ((11210161 / 16777216 : ℝ) : EReal) ∨ ((11210193 / 16777216 : ℝ) : EReal) < a
  three : a < ((12554431 / 8388608 : ℝ) : EReal) ∨ ((12554447 / 8388608 : ℝ) : EReal) < a
  four : a < ((10543093 / 2097152 : ℝ) : EReal) ∨ ((10543097 / 2097152 : ℝ) : EReal) < a

/-- A slope is outside the margins. -/
def Off (t : EReal) : Prop := OffSize (max t (-t))

/-- The angle of a size of slope lies within a half step of the number of thresholds below it. -/
theorem angle_of_size (a : EReal) (h0 : 0 ≤ a) (h : OffSize a) :
    ∃ (α : ℝ) (u : ℕ), Ideal.atan a = (α : EReal) ∧ u ≤ 4 ∧
      ((u : ℝ) - 1 / 2) * Real.pi < 8 * α ∧ 8 * α < ((u : ℝ) + 1 / 2) * Real.pi ∧
      (((thr 1 : ℝ) : EReal) < a ↔ 1 ≤ u) ∧ (((thr 2 : ℝ) : EReal) < a ↔ 2 ≤ u) ∧
      (((thr 3 : ℝ) : EReal) < a ↔ 3 ≤ u) ∧ (((thr 4 : ℝ) : EReal) < a ↔ 4 ≤ u) := by
  have hp := Real.pi_pos
  induction a using EReal.rec with
  | bot => simp at h0
  | top =>
    refine ⟨Real.pi / 2, 4, rfl, le_rfl, by push_cast; linarith, by push_cast; linarith, ?_⟩
    simp [EReal.coe_lt_top]
  | coe r =>
    obtain ⟨h1, h2, h3, h4⟩ := h
    simp only [EReal.coe_lt_coe_iff] at h1 h2 h3 h4 ⊢
    have hr : 0 ≤ r := by exact_mod_cast h0
    have ha0 : 0 ≤ Real.arctan r := by
      have := Real.arctan_strictMono.monotone hr; simpa using this
    have ha1 := Real.arctan_lt_pi_div_two r
    have s1 := arctan_side (θ := Real.pi / 16) (by linarith) (by linarith) r
    have s2 := arctan_side (θ := 3 * Real.pi / 16) (by linarith) (by linarith) r
    have s3 := arctan_side (θ := 5 * Real.pi / 16) (by linarith) (by linarith) r
    have s4 := arctan_side (θ := 7 * Real.pi / 16) (by linarith) (by linarith) r
    obtain ⟨b1, c1⟩ := tan_sixteenth
    obtain ⟨b2, c2⟩ := tan_three_sixteenths
    obtain ⟨b3, c3⟩ := tan_five_sixteenths
    obtain ⟨b4, c4⟩ := tan_seven_sixteenths
    norm_num at b1 c1 b2 c2 b3 c3 b4 c4 h1 h2 h3 h4
    simp only [thr]
    refine ⟨Real.arctan r, ?_⟩
    rcases h4 with h4 | h4
    · rcases h3 with h3 | h3
      · rcases h2 with h2 | h2
        · rcases h1 with h1 | h1
          · have := s1.1 (by linarith)
            refine ⟨0, rfl, by norm_num, by push_cast; linarith, by push_cast; linarith, ?_⟩
            refine ⟨?_, ?_, ?_, ?_⟩ <;> norm_num <;> linarith
          · have := s1.2 (by linarith)
            have := s2.1 (by linarith)
            refine ⟨1, rfl, by norm_num, by push_cast; linarith, by push_cast; linarith, ?_⟩
            refine ⟨?_, ?_, ?_, ?_⟩ <;> norm_num <;> linarith
        · have := s2.2 (by linarith)
          have := s3.1 (by linarith)
          refine ⟨2, rfl, by norm_num, by push_cast; linarith, by push_cast; linarith, ?_⟩
          refine ⟨?_, ?_, ?_, ?_⟩ <;> norm_num <;> linarith
      · have := s3.2 (by linarith)
        have := s4.1 (by linarith)
        refine ⟨3, rfl, by norm_num, by push_cast; linarith, by push_cast; linarith, ?_⟩
        refine ⟨?_, ?_, ?_, ?_⟩ <;> norm_num <;> linarith
    · have := s4.2 (by linarith)
      refine ⟨4, rfl, by norm_num, by push_cast; linarith, by push_cast; linarith, ?_⟩
      refine ⟨?_, ?_, ?_, ?_⟩ <;> norm_num <;> linarith

/-- The arctangent of a negative slope is minus that of its size. -/
theorem atan_size (t : EReal) (α : ℝ) (h : Ideal.atan (max t (-t)) = (α : EReal)) :
    Ideal.atan t = ((if t < 0 then -α else α : ℝ) : EReal) := by
  induction t using EReal.rec with
  | bot =>
    simp only [EReal.neg_bot, bot_le, max_eq_right, Ideal.atan_top, EReal.coe_eq_coe_iff] at h
    simp [Ideal.atan_bot, ← h]
  | top =>
    simp only [EReal.neg_top, bot_le, max_eq_left, Ideal.atan_top, EReal.coe_eq_coe_iff] at h
    simp [Ideal.atan_top, ← h]
  | coe r =>
    by_cases hr : r < 0
    · have e : max (r : EReal) (-(r : EReal)) = ((-r : ℝ) : EReal) := by
        rw [← EReal.coe_neg]; exact max_eq_right (by exact_mod_cast (by linarith : r ≤ -r))
      rw [e, Ideal.atan_coe, Real.arctan_neg, EReal.coe_eq_coe_iff] at h
      rw [if_pos (by exact_mod_cast hr), Ideal.atan_coe, ← h, neg_neg]
    · have e : max (r : EReal) (-(r : EReal)) = (r : EReal) := by
        rw [← EReal.coe_neg]; exact max_eq_left (by exact_mod_cast (by linarith : -r ≤ r))
      rw [e] at h
      rw [if_neg (by exact_mod_cast hr), h]

theorem size_nonneg (t : EReal) : 0 ≤ max t (-t) := by
  rcases le_total 0 t with h | h
  · exact le_max_of_le_left h
  · exact le_max_of_le_right (by simpa using EReal.neg_le_neg_iff.mpr h)

/-- Away from the margins, rounding the angle finds the direction the thresholds find. -/
theorem step_eq (t : EReal) (h : Off t) : step t = (((4 + turn t : ℤ) : ℝ) : EReal) := by
  obtain ⟨α, u, hα, hu, l, r, e1, e2, e3, e4⟩ := angle_of_size _ (size_nonneg t) h
  have hp := Real.pi_pos
  have ht : turn t = if t < 0 then -(u : ℤ) else u := by
    unfold turn Above
    simp only [e1, e2, e3, e4]
    interval_cases u <;> simp
  have h45 : (45 : ℝ) ≠ 0 := by norm_num
  have hq : 4 * (Real.pi / 4) ≠ 0 := by positivity
  have hat : Ideal.atan 1 = ((Real.pi / 4 : ℝ) : EReal) := by
    rw [show (1 : EReal) = ((1 : ℝ) : EReal) from rfl, Ideal.atan_coe, Real.arctan_one]
  unfold step
  rw [atan_size t α hα, hat, ← EReal.coe_mul, Ideal.div_coe h45, Ideal.div_coe hq, ← EReal.coe_mul,
    ← EReal.coe_mul, ← EReal.coe_add, ← EReal.coe_mul, Ideal.liftRound_coe, ht]
  congr 2
  have key : ∀ β : ℝ, (β * (360 * (1 / (4 * (Real.pi / 4)))) + 180) * (1 / 45)
      = 4 + 8 * β / Real.pi := by
    intro β; field_simp; ring
  rw [key]
  apply roundHalfEven_near
  · split_ifs
    · have : -((u : ℝ) + 1 / 2) < 8 * -α / Real.pi := by rw [lt_div_iff₀ hp]; linarith
      push_cast; linarith
    · have : ((u : ℝ) - 1 / 2) < 8 * α / Real.pi := by rw [lt_div_iff₀ hp]; linarith
      push_cast; linarith
  · split_ifs
    · have : 8 * -α / Real.pi < -((u : ℝ) - 1 / 2) := by rw [div_lt_iff₀ hp]; linarith
      push_cast; linarith
    · have : 8 * α / Real.pi < ((u : ℝ) + 1 / 2) := by rw [div_lt_iff₀ hp]; linarith
      push_cast; linarith

/-- A slope turns by at most four steps either way. -/
theorem turn_bounds (t : EReal) : -4 ≤ turn t ∧ turn t ≤ 4 := by
  unfold turn
  constructor <;> simp only <;> split_ifs <;> norm_num

/-- The value at a pixel kept if it is a strict maximum along its direction, `0` otherwise: `c` is
the pixel's own value, the other eight its neighbours' by the points of the compass. -/
def thinR (p : ℕ) (c e w n s ne nw se sw : ℝ) : ℝ :=
  if (p = 3 ∨ p = 7) ∧ ¬ max nw se < c then 0
  else if (p = 2 ∨ p = 6) ∧ ¬ max n s < c then 0
  else if (p = 1 ∨ p = 5) ∧ ¬ max ne sw < c then 0
  else if (p = 0 ∨ p = 4) ∧ ¬ max e w < c then 0
  else c

open Classical in
/-- The greater of the two neighbours along a slope's direction, by the thresholds. -/
def across (t : EReal) (e w n s ne nw se sw : ℝ) : ℝ :=
  if Above 4 t then max e w
  else if Above 3 t then (if t < 0 then max ne sw else max nw se)
  else if Above 2 t then max n s
  else if Above 1 t then (if t < 0 then max nw se else max ne sw)
  else max e w

theorem thr_mono (t : EReal) {i j : ℕ} (h : thr i ≤ thr j) (hj : Above j t) : Above i t :=
  lt_of_le_of_lt (by exact_mod_cast h) hj

open Classical in
/-- Thinning along the direction found by thresholds. -/
theorem thinR_pos (t : EReal) (c e w n s ne nw se sw : ℝ) :
    (if across t e w n s ne nw se sw < c then c else 0)
      = thinR (pos t) c e w n s ne nw se sw := by
  have h12 : Above 2 t → Above 1 t := thr_mono t (by norm_num [thr])
  have h23 : Above 3 t → Above 2 t := thr_mono t (by norm_num [thr])
  have h34 : Above 4 t → Above 3 t := thr_mono t (by norm_num [thr])
  unfold across pos turn thinR
  by_cases a1 : Above 1 t <;> by_cases a2 : Above 2 t <;> by_cases a3 : Above 3 t <;>
    by_cases a4 : Above 4 t <;> by_cases hn : t < 0 <;>
    first
    | exact absurd (h12 a2) a1
    | exact absurd (h23 a3) a2
    | exact absurd (h34 a4) a3
    | (simp [a1, a2, a3, a4, hn]; try (split_ifs <;> simp_all <;> (rename_i h1 h2; exfalso; linarith [h1.2])))

/-- No value, nothing to keep. -/
theorem thinR_zero (p : ℕ) (e w n s ne nw se sw : ℝ) : thinR p 0 e w n s ne nw se sw = 0 := by
  unfold thinR; split_ifs <;> rfl

/-- The two strengths of an edge: a half above the low threshold, a whole above the high one. -/
def hot (v : ℝ) : ℝ := (if 1 / 2 < v then 1 / 2 else 0) + (if 1 < v then 1 / 2 else 0)

theorem hot_zero : hot 0 = 0 := by norm_num [hot]

theorem zero_coe : (0 : EReal) = ((0 : ℝ) : EReal) := rfl

theorem one_coe : (1 : EReal) = ((1 : ℝ) : EReal) := rfl

theorem max_coe (u v : ℝ) : max (u : EReal) (v : EReal) = ((max u v : ℝ) : EReal) :=
  (EReal.coe_strictMono.monotone.map_max (a := u) (b := v)).symm

theorem min_coe (u v : ℝ) : min (u : EReal) (v : EReal) = ((min u v : ℝ) : EReal) :=
  (EReal.coe_strictMono.monotone.map_min (a := u) (b := v)).symm

theorem ite_coe (P : Prop) [Decidable P] (u v : ℝ) :
    (if P then (u : EReal) else (v : EReal)) = ((if P then u else v : ℝ) : EReal) := by
  split_ifs <;> rfl

open Classical in
/-- The turn in degrees, counted up threshold by threshold. -/
theorem turn_degrees (t : EReal) :
    (if t < 0 then
        0 - ((((if Above 1 t then (1 : EReal) else 0) + if Above 2 t then 1 else 0)
          + if Above 3 t then 1 else 0) + if Above 4 t then 1 else 0)
      else (((if Above 1 t then (1 : EReal) else 0) + if Above 2 t then 1 else 0)
          + if Above 3 t then 1 else 0) + if Above 4 t then 1 else 0) * ((45 : ℝ) : EReal)
        + ((180 : ℝ) : EReal) = (((turn t : ℝ) * 45 + 180 : ℝ) : EReal) := by
  simp only [zero_coe, one_coe, ite_coe, ← EReal.coe_add, ← EReal.coe_sub, ← EReal.coe_mul,
    EReal.coe_eq_coe_iff]
  unfold turn
  simp only [apply_ite (Int.cast : ℤ → ℝ), Int.cast_neg, Int.cast_add, Int.cast_one, Int.cast_zero,
    zero_sub]
  rfl

open Classical in
/-- The strength after thinning by thresholds. -/
theorem hot_across (t : EReal) (c e w n s ne nw se sw : ℝ) (k : EReal)
    (hk : k = if (if Above 4 t then max (e : EReal) w
        else if Above 3 t then (if t < 0 then max (ne : EReal) sw else max (nw : EReal) se)
        else if Above 2 t then max (n : EReal) s
        else if Above 1 t then (if t < 0 then max (nw : EReal) se else max (ne : EReal) sw)
        else max (e : EReal) w) < (c : EReal) then (c : EReal) else 0) :
    (if ((1 / 2 : ℝ) : EReal) < k then ((1 / 2 : ℝ) : EReal) else 0)
      + (if 1 < k then ((1 / 2 : ℝ) : EReal) else 0)
      = ((hot (thinR (pos t) c e w n s ne nw se sw) : ℝ) : EReal) := by
  have e1 : k = ((thinR (pos t) c e w n s ne nw se sw : ℝ) : EReal) := by
    rw [hk, ← thinR_pos]
    simp only [max_coe, zero_coe, ite_coe, EReal.coe_lt_coe_iff]
    rfl
  rw [e1]
  simp only [zero_coe, one_coe, ite_coe, EReal.coe_lt_coe_iff, ← EReal.coe_add]
  unfold hot
  congr

end Cert.Canny

end
-- ==== Proof.Spec.lean ====
/- The five results as plain mathematics over the reals, of an image whose pixels are finite. Rows
and columns are whole numbers; outside the image everything is zero. -/
module

public import proofs.«01_k».proof.Proof.Sector
public import Idealize.ShloMosaic.Lib.Pointwise

@[expose] public section

noncomputable section

namespace Cert.Canny

open Idealize.ShloMosaic

/-- An image: eight of them, of three channels, 1024 by 1024. -/
abbrev Img : Shape := ⟨4, ![8, 3, 1024, 1024]⟩

/-- A result: eight planes, 1024 by 1024. -/
abbrev Res : Shape := ⟨4, ![8, 1, 1024, 1024]⟩

/-- A row and a column inside the image. -/
def Inside (y x : ℤ) : Prop := (0 ≤ y ∧ y < 1024) ∧ (0 ≤ x ∧ x < 1024)

instance (y x : ℤ) : Decidable (Inside y x) := inferInstanceAs (Decidable (_ ∧ _))

/-- The pixel of channel `c` of image `b`. -/
def pix (A : Img.Idx → EReal) (b : Fin 8) (c : Fin 3) (y x : ℤ) : ℝ :=
  if h : Inside y x then
    (A (ix4 b c ⟨y.toNat, by have := h.1; omega⟩ ⟨x.toNat, by have := h.2; omega⟩)).toReal
  else 0

/-- The mean of the three channels. -/
def mean (A : Img.Idx → EReal) (b : Fin 8) (y x : ℤ) : ℝ :=
  (pix A b 0 y x + pix A b 1 y x + pix A b 2 y x) * (1 / 3)

/-- Smoothing down a column with the weights ½, 1, ½. -/
def smooth (A : Img.Idx → EReal) (b : Fin 8) (y x : ℤ) : ℝ :=
  (mean A b (y + 1) x + mean A b (y - 1) x) * (1 / 2) + mean A b y x

/-- The difference of the pixels below and above. -/
def drop (A : Img.Idx → EReal) (b : Fin 8) (y x : ℤ) : ℝ :=
  mean A b (y + 1) x - mean A b (y - 1) x

/-- The gradient along a row. -/
def gradX (A : Img.Idx → EReal) (b : Fin 8) (y x : ℤ) : ℝ :=
  smooth A b y (x + 1) - smooth A b y (x - 1)

/-- The gradient along a column. -/
def gradY (A : Img.Idx → EReal) (b : Fin 8) (y x : ℤ) : ℝ :=
  (drop A b y (x + 1) + drop A b y (x - 1)) * (1 / 2) + drop A b y x

/-- The length of the gradient, zero outside the image. -/
def mag (A : Img.Idx → EReal) (b : Fin 8) (y x : ℤ) : ℝ :=
  if Inside y x then √(gradX A b y x * gradX A b y x + gradY A b y x * gradY A b y x) else 0

/-- The slope of the gradient. -/
def slope (A : Img.Idx → EReal) (b : Fin 8) (y x : ℤ) : EReal :=
  Ideal.div (gradY A b y x : EReal) (gradX A b y x : EReal)

/-- The orientation in degrees, a multiple of 45. -/
def orient (A : Img.Idx → EReal) (b : Fin 8) (y x : ℤ) : ℝ :=
  (turn (slope A b y x) : ℝ) * 45 + 180

/-- The length where it is a strict maximum along the gradient. -/
def thin (A : Img.Idx → EReal) (b : Fin 8) (y x : ℤ) : ℝ :=
  thinR (pos (slope A b y x)) (mag A b y x) (mag A b y (x + 1)) (mag A b y (x - 1))
    (mag A b (y - 1) x) (mag A b (y + 1) x) (mag A b (y - 1) (x + 1)) (mag A b (y - 1) (x - 1))
    (mag A b (y + 1) (x + 1)) (mag A b (y + 1) (x - 1))

/-- The strength of the edge at a pixel: 0, ½ or 1. -/
def strength (A : Img.Idx → EReal) (b : Fin 8) (y x : ℤ) : ℝ := hot (thin A b y x)

/-- Three strengths side by side. -/
def trio (A : Img.Idx → EReal) (b : Fin 8) (y x : ℤ) : ℝ :=
  strength A b y (x + 1) + strength A b y x + strength A b y (x - 1)

/-- The strengths of a pixel and its eight neighbours together. -/
def nine (A : Img.Idx → EReal) (b : Fin 8) (y x : ℤ) : ℝ :=
  trio A b (y + 1) x + trio A b y x + trio A b (y - 1) x

open Classical in
/-- The edges: strong pixels, and weak ones with enough strength about them. -/
def edge (A : Img.Idx → EReal) (b : Fin 8) (y x : ℤ) : ℝ :=
  if strength A b y x = 1 then 1
  else if strength A b y x = 1 / 2 then (if 1 < nine A b y x * (5 / 4) then 1 else 0) else 0

/-- Every pixel is finite. -/
def Finite (A : Img.Idx → EReal) : Prop := ∀ i, A i ≠ ⊤ ∧ A i ≠ ⊥

variable {A : Img.Idx → EReal} {b : Fin 8}

/-- A pixel of a finite image, as the image holds it. -/
theorem pix_coe (hA : Finite A) (c : Fin 3) (y x : Fin 1024) :
    A (ix4 b c y x) = ((pix A b c y x : ℝ) : EReal) := by
  have h : Inside (y : ℤ) (x : ℤ) := ⟨by omega, by omega⟩
  simp only [pix, dif_pos h, Int.toNat_natCast]
  exact (EReal.coe_toReal (hA _).1 (hA _).2).symm

theorem pix_out {c : Fin 3} {y x : ℤ} (h : ¬ Inside y x) : pix A b c y x = 0 := dif_neg h

theorem mean_out {y x : ℤ} (h : ¬ Inside y x) : mean A b y x = 0 := by
  simp [mean, pix_out h]

theorem smooth_out {y x : ℤ} (h : ¬ (0 ≤ x ∧ x < 1024)) : smooth A b y x = 0 := by
  simp [smooth, mean_out (A := A) (b := b) (fun k : Inside _ x => h k.2)]

theorem drop_out {y x : ℤ} (h : ¬ (0 ≤ x ∧ x < 1024)) : drop A b y x = 0 := by
  simp [drop, mean_out (A := A) (b := b) (fun k : Inside _ x => h k.2)]

theorem mag_out {y x : ℤ} (h : ¬ Inside y x) : mag A b y x = 0 := if_neg h

theorem strength_out {y x : ℤ} (h : ¬ Inside y x) : strength A b y x = 0 := by
  simp [strength, thin, mag_out h, thinR_zero, hot_zero]

end Cert.Canny

end
-- ==== Proof.Shift.lean ====
/- What the kernel's shifts by one row or one column read, of a plane of 272 rows that holds a
function of the image's rows and columns on some of its rows. -/
module

public import proofs.«01_k».proof.Proof.Gen.KernelIdeal.Skeleton
public import proofs.«01_k».proof.Proof.Spec

@[expose] public section

set_option maxRecDepth 16384

noncomputable section

namespace Cert.Canny

open Idealize.ShloMosaic Cert.KernelIdeal Cert.KernelIdeal.Gen

/-- On its rows from `lo` to `hi` the plane holds `f`, row `r` being the image's row `y0 + r`. -/
def Reads (y0 : ℤ) (lo hi : ℕ) (f : ℤ → ℤ → ℝ) (v : FVec Ideal S272x1024 .f32) : Prop :=
  ∀ (r : Fin 272) (x : Fin 1024), lo ≤ r.val → r.val ≤ hi →
    v (ix2 r x) = ((f (y0 + (r.val : ℤ)) (x.val : ℤ) : ℝ) : EReal)

/-- A function that is zero left and right of the image. -/
def Zero (f : ℤ → ℤ → ℝ) : Prop := ∀ y x : ℤ, ¬ (0 ≤ x ∧ x < 1024) → f y x = 0

variable {y0 : ℤ} {lo hi : ℕ} {f : ℤ → ℤ → ℝ} {v : FVec Ideal S272x1024 .f32}

/-- Fewer rows, and the same function written otherwise. -/
theorem Reads.mono (h : Reads y0 lo hi f v) {lo' hi' : ℕ} {g : ℤ → ℤ → ℝ} (h0 : lo ≤ lo')
    (h1 : hi' ≤ hi) (hg : ∀ y x, f y x = g y x) : Reads y0 lo' hi' g v := by
  intro r x a b
  rw [h r x (by omega) (by omega), hg]

/-- One column to the left: the value of the next column. -/
theorem shl_reads (h : Reads y0 lo hi f v) (hf : Zero f) (h1 : S272x1024.Slices ![0, 1] S272x1023)
    (h2 : Shape.Concatenates [S272x1023, S272x1] S272x1024 1) :
    Reads y0 lo hi (fun y x => f y (x + 1))
      (concatenate S272x1024 1 [⟨S272x1023, extractStridedSlice S272x1023 ![0, 1] v h1⟩,
        ⟨S272x1, broadcast S272x1 (Scalar.ofBits .f32 0x00000000#32 : Ideal .f32)⟩] h2) := by
  intro r x a b
  pointwise
  split_ifs with hx
  · rw [h _ _ a b]
    congr 2
    push_cast; omega
  · rw [hf _ _ (by omega)]; rfl

/-- One column to the right: the value of the column before. -/
theorem shr_reads (h : Reads y0 lo hi f v) (hf : Zero f) (h1 : S272x1024.Slices ![0, 0] S272x1023)
    (h2 : Shape.Concatenates [S272x1, S272x1023] S272x1024 1) :
    Reads y0 lo hi (fun y x => f y (x - 1))
      (concatenate S272x1024 1 [⟨S272x1, broadcast S272x1 (Scalar.ofBits .f32 0x00000000#32 : Ideal .f32)⟩,
        ⟨S272x1023, extractStridedSlice S272x1023 ![0, 0] v h1⟩] h2) := by
  intro r x a b
  pointwise
  split_ifs with hx hx'
  · rw [hf _ _ (by omega)]; rfl
  · rw [h _ _ a b]
    congr 2
    push_cast; omega
  · exact absurd rfl hx'

/-- One row up: the value of the next row. -/
theorem sup_reads (h : Reads y0 lo hi f v) {lo' hi' : ℕ} (hl : lo ≤ lo' + 1) (hh : hi' + 1 ≤ hi)
    (hb : hi ≤ 271) (h1 : S272x1024.Slices ![1, 0] S271x1024)
    (h2 : Shape.Concatenates [S271x1024, S1x1024] S272x1024 0) :
    Reads y0 lo' hi' (fun y x => f (y + 1) x)
      (concatenate S272x1024 0 [⟨S271x1024, extractStridedSlice S271x1024 ![1, 0] v h1⟩,
        ⟨S1x1024, broadcast S1x1024 (Scalar.ofBits .f32 0x00000000#32 : Ideal .f32)⟩] h2) := by
  intro r x a b
  pointwise
  split_ifs with hx
  · rw [h _ _ (by simp only; omega) (by simp only; omega)]
    congr 2
    push_cast; omega
  · omega

/-- One row down: the value of the row before. -/
theorem sdn_reads (h : Reads y0 lo hi f v) {lo' hi' : ℕ} (hl : lo + 1 ≤ lo') (hh : hi' ≤ hi + 1)
    (h1 : S272x1024.Slices ![0, 0] S271x1024)
    (h2 : Shape.Concatenates [S1x1024, S271x1024] S272x1024 0) :
    Reads y0 lo' hi' (fun y x => f (y - 1) x)
      (concatenate S272x1024 0 [⟨S1x1024, broadcast S1x1024 (Scalar.ofBits .f32 0x00000000#32 : Ideal .f32)⟩,
        ⟨S271x1024, extractStridedSlice S271x1024 ![0, 0] v h1⟩] h2) := by
  intro r x a b
  pointwise
  split_ifs with hx hx'
  · omega
  · rw [h _ _ (by simp only; omega) (by simp only; omega)]
    congr 2
    push_cast; omega
  · exact absurd rfl hx'

end Cert.Canny

end
-- ==== Proof.Block.lean ====
/- What one block of the kernel computes, on each of the rows its results are taken from. -/
module

public import proofs.«01_k».proof.Proof.Shift
public import proofs.«01_k».proof.Proof.Gen.KernelIdeal.Frame

@[expose] public section

set_option maxRecDepth 16384

noncomputable section

namespace Cert.Canny

open Idealize.ShloMosaic Cert.KernelIdeal Cert.KernelIdeal.Gen

/-- The three channels of a block of 256 rows, as loaded. -/
theorem ld_main (x : Vec Ideal S1x3x256x1024 .f32) (r : Fin 256) (c : Fin 1024) :
    View.ld x r0_0 (ix4 0 0 r c) = x (ix4 0 0 r c) ∧ View.ld x r0_1 (ix4 0 0 r c) = x (ix4 0 1 r c)
      ∧ View.ld x r0_2 (ix4 0 0 r c) = x (ix4 0 2 r c) := by
  refine ⟨?_, ?_, ?_⟩ <;>
  · show x _ = x _
    congr 1
    funext a
    fin_cases a <;> apply Fin.ext <;> simp [r0_0, r0_1, r0_2, ix4]

/-- The three channels of a block of eight rows, as loaded. -/
theorem ld_side (x : Vec Ideal S1x3x8x1024 .f32) (r : Fin 8) (c : Fin 1024) :
    View.ld x r0_3 (ix4 0 0 r c) = x (ix4 0 0 r c) ∧ View.ld x r0_4 (ix4 0 0 r c) = x (ix4 0 1 r c)
      ∧ View.ld x r0_5 (ix4 0 0 r c) = x (ix4 0 2 r c) := by
  refine ⟨?_, ?_, ?_⟩ <;>
  · show x _ = x _
    congr 1
    funext a
    fin_cases a <;> apply Fin.ext <;> simp [r0_3, r0_4, r0_5, ix4]

/-- The test for a block that is not the first. -/
theorem cmp_first (i : grid0.Coords) :
    Scalar.cmpi .sgt (BitVec.ofNat 32 (i 1).val) 0#32 = if (i 1).val = 0 then 0#1 else 1#1 :=
  (by decide : ∀ k : Fin 4,
    Scalar.cmpi .sgt (BitVec.ofNat 32 k.val) 0#32 = if k.val = 0 then 0#1 else 1#1) (i 1)

/-- The test for a block that is not the last. -/
theorem cmp_last (i : grid0.Coords) :
    Scalar.cmpi .slt (BitVec.ofNat 32 (i 1).val) 3#32 = if (i 1).val < 3 then 1#1 else 0#1 :=
  (by decide : ∀ k : Fin 4,
    Scalar.cmpi .slt (BitVec.ofNat 32 k.val) 3#32 = if k.val < 3 then 1#1 else 0#1) (i 1)

/-- The three blocks of pixels a point of the grid works on: its own 256 rows, the eight rows above
and the eight below. -/
structure Blocks (A : Img.Idx → EReal) (b : Fin 8) (i : grid0.Coords)
    (x0 : Vec Ideal S1x3x256x1024 .f32) (x1 x2 : Vec Ideal S1x3x8x1024 .f32) : Prop where
  own : ∀ (c : Fin 3) (r : Fin 256) (x : Fin 1024),
    x0 (ix4 0 c r x) = ((pix A b c (256 * ((i 1).val : ℤ) + r.val) x.val : ℝ) : EReal)
  above : (i 1).val ≠ 0 → ∀ (c : Fin 3) (r : Fin 8) (x : Fin 1024),
    x1 (ix4 0 c r x) = ((pix A b c (256 * ((i 1).val : ℤ) - 8 + r.val) x.val : ℝ) : EReal)
  below : (i 1).val < 3 → ∀ (c : Fin 3) (r : Fin 8) (x : Fin 1024),
    x2 (ix4 0 c r x) = ((pix A b c (256 * ((i 1).val : ℤ) + 256 + r.val) x.val : ℝ) : EReal)

/-- The image's row that a block's first row (with the eight above) is. -/
def top (i : grid0.Coords) : ℤ := 256 * ((i 1).val : ℤ) - 8

variable {A : Img.Idx → EReal} {b : Fin 8} {i : grid0.Coords}
  {x0 : Vec Ideal S1x3x256x1024 .f32} {x1 x2 : Vec Ideal S1x3x8x1024 .f32}

theorem third_eq : (Named.named Cert.KernelIdeal.κ "third" 1051372203#32 : Ideal .f32) = ((1 / 3 : ℝ) : EReal) := rfl

/-- The mean of the channels on all 272 rows. -/
theorem mean_reads (h : Blocks A b i x0 x1 x2) :
    Reads (top i) 0 271 (mean A b)
      (k0_pay5 (k0_pay1 (F := Ideal) i) (k0_pay2 (F := Ideal) i) (k0_pay43 i x0 x1 x2)
        (k0_pay44 i x0 x1 x2) (View.ld x1 r0_5) (View.ld x2 r0_3) (View.ld x2 r0_4)
        (View.ld x2 r0_5)) := by
  intro r x _ _
  have hk : (i 1).val < 4 := (i 1).isLt
  pointwise [k0_pay5, k0_pay1, k0_pay2, k0_pay43, k0_pay44, k0_pay3, k0_pay4]
  rw [cmp_first i, cmp_last i]
  simp only [(ld_main _ _ _).1, (ld_main _ _ _).2.1, (ld_main _ _ _).2.2, (ld_side _ _ _).1,
    (ld_side _ _ _).2.1, (ld_side _ _ _).2.2]
  rw [third_eq]
  by_cases c1 : r.val < 8
  · rw [dif_pos c1]
    by_cases c2 : (i 1).val = 0
    · have o : ¬ Inside (top i + (r.val : ℤ)) (x.val : ℤ) := by
        intro k; have := k.1; unfold top at this; omega
      rw [if_pos c2, mean_out o]; rfl
    · rw [if_neg c2, h.above c2 0 ⟨r.val, c1⟩ x, h.above c2 1 ⟨r.val, c1⟩ x, h.above c2 2 ⟨r.val, c1⟩ x]
      simp only [Scalar.select, if_true, ← EReal.coe_add, ← EReal.coe_mul]
      rfl
  · rw [dif_neg c1]
    by_cases c3 : r.val - 8 < 256
    · rw [dif_pos c3, h.own 0 ⟨r.val - 8, c3⟩ x, h.own 1 ⟨r.val - 8, c3⟩ x, h.own 2 ⟨r.val - 8, c3⟩ x]
      simp only [← EReal.coe_add, ← EReal.coe_mul]
      have e : 256 * ((i 1).val : ℤ) + ((r.val - 8 : ℕ) : ℤ) = top i + r.val := by
        unfold top; omega
      simp only [e]
      rfl
    · rw [dif_neg c3]
      by_cases c4 : (i 1).val < 3
      · rw [if_pos c4, h.below c4 0 ⟨r.val - 8 - 256, by omega⟩ x, h.below c4 1 ⟨r.val - 8 - 256, by omega⟩ x,
          h.below c4 2 ⟨r.val - 8 - 256, by omega⟩ x]
        simp only [Scalar.select, if_true, ← EReal.coe_add, ← EReal.coe_mul]
        have e : 256 * ((i 1).val : ℤ) + 256 + ((r.val - 8 - 256 : ℕ) : ℤ) = top i + r.val := by
          unfold top; omega
        simp only [e]
        rfl
      · have o : ¬ Inside (top i + (r.val : ℤ)) (x.val : ℤ) := by
          intro k; have := k.1; unfold top at this; omega
        have z : ((mean A b (top i + (r.val : ℤ)) (x.val : ℤ) : ℝ) : EReal) = 0 := by
          rw [mean_out o]; rfl
        rw [if_neg c4]
        exact (if_neg (by decide)).trans z.symm

theorem up_reads (h : Blocks A b i x0 x1 x2) :
    Reads (top i) 1 270 (fun y x => mean A b (y + 1) x)
      (k0_pay6 (k0_pay1 (F := Ideal) i) (k0_pay2 (F := Ideal) i) (k0_pay43 i x0 x1 x2)
        (k0_pay44 i x0 x1 x2) (View.ld x1 r0_5) (View.ld x2 r0_3) (View.ld x2 r0_4)
        (View.ld x2 r0_5)) :=
  sup_reads (mean_reads h) (by omega) (by omega) (by omega) slices_S272x1024_o1_0_S271x1024
    concatenates_S271x1024_S1x1024_S272x1024_d0

theorem down_reads (h : Blocks A b i x0 x1 x2) :
    Reads (top i) 1 270 (fun y x => mean A b (y - 1) x)
      (k0_pay7 (k0_pay1 (F := Ideal) i) (k0_pay2 (F := Ideal) i) (k0_pay43 i x0 x1 x2)
        (k0_pay44 i x0 x1 x2) (View.ld x1 r0_5) (View.ld x2 r0_3) (View.ld x2 r0_4)
        (View.ld x2 r0_5)) :=
  sdn_reads (mean_reads h) (by omega) (by omega) slices_S272x1024_o0_0_S271x1024
    concatenates_S1x1024_S271x1024_S272x1024_d0

/-- The columns smoothed. -/
theorem smooth_reads (h : Blocks A b i x0 x1 x2) :
    Reads (top i) 1 270 (smooth A b)
      (k0_pay8 (k0_pay1 (F := Ideal) i) (k0_pay2 (F := Ideal) i) (k0_pay43 i x0 x1 x2)
        (k0_pay44 i x0 x1 x2) (View.ld x1 r0_5) (View.ld x2 r0_3) (View.ld x2 r0_4)
        (View.ld x2 r0_5)) := by
  intro r x a c
  pointwise [k0_pay8]
  rw [up_reads h r x a c, down_reads h r x a c, mean_reads h r x (by omega) (by omega), ofBits_half]
  simp only [← EReal.coe_add, ← EReal.coe_mul]
  rfl

/-- The rows' difference. -/
theorem drop_reads (h : Blocks A b i x0 x1 x2) :
    Reads (top i) 1 270 (drop A b) (k0_pay45 i x0 x1 x2) := by
  intro r x a c
  unfold k0_pay45
  pointwise [k0_pay9]
  rw [up_reads h r x a c, down_reads h r x a c]
  simp only [← EReal.coe_sub]
  rfl

/-- The gradient along a row. -/
theorem gradX_reads (h : Blocks A b i x0 x1 x2) :
    Reads (top i) 1 270 (gradX A b) (k0_pay12 (k0_pay46 i x0 x1 x2) (k0_pay47 i x0 x1 x2)) := by
  have l : Reads (top i) 1 270 (fun y x => smooth A b y (x + 1)) (k0_pay46 i x0 x1 x2) :=
    shl_reads (smooth_reads h) (fun _ _ k => smooth_out k) slices_S272x1024_o0_1_S272x1023
      concatenates_S272x1023_S272x1_S272x1024_d1
  have r : Reads (top i) 1 270 (fun y x => smooth A b y (x - 1)) (k0_pay47 i x0 x1 x2) :=
    shr_reads (smooth_reads h) (fun _ _ k => smooth_out k) slices_S272x1024_o0_0_S272x1023
      concatenates_S272x1_S272x1023_S272x1024_d1
  intro y x a c
  pointwise [k0_pay12]
  rw [l y x a c, r y x a c, ← EReal.coe_sub]
  rfl

/-- The gradient along a column. -/
theorem gradY_reads (h : Blocks A b i x0 x1 x2) :
    Reads (top i) 1 270 (gradY A b) (k0_pay13 (k0_pay45 i x0 x1 x2)) := by
  have l := shl_reads (drop_reads h) (fun _ _ k => drop_out k) slices_S272x1024_o0_1_S272x1023
    concatenates_S272x1023_S272x1_S272x1024_d1
  have r := shr_reads (drop_reads h) (fun _ _ k => drop_out k) slices_S272x1024_o0_0_S272x1023
    concatenates_S272x1_S272x1023_S272x1024_d1
  intro y x a c
  have e : k0_pay13 (k0_pay45 i x0 x1 x2) = addf (mulf (addf _ _) (broadcast S272x1024
    (Scalar.ofBits .f32 0x3F000000#32 : Ideal .f32))) (k0_pay45 i x0 x1 x2) := rfl
  rw [e]
  show ((_ : EReal) + _) * _ + _ = _
  rw [l y x a c, r y x a c, drop_reads h y x a c]
  show ((_ : EReal) + _) * (Ideal.ofBits .f32 0x3F000000#32) + _ = _
  rw [ofBits_half]
  simp only [← EReal.coe_add, ← EReal.coe_mul]
  rfl

/-- The length of the gradient. -/
theorem mag_reads (h : Blocks A b i x0 x1 x2) :
    Reads (top i) 1 270 (mag A b) (k0_pay48 i x0 x1 x2) := by
  intro r x a c
  have hk : (i 1).val < 4 := (i 1).isLt
  have key : ∀ r' : Fin 272, r' = r →
      Ideal.sqrt (k0_pay12 (k0_pay46 i x0 x1 x2) (k0_pay47 i x0 x1 x2) (ix2 r' x)
          * k0_pay12 (k0_pay46 i x0 x1 x2) (k0_pay47 i x0 x1 x2) (ix2 r' x)
        + k0_pay13 (k0_pay45 i x0 x1 x2) (ix2 r' x) * k0_pay13 (k0_pay45 i x0 x1 x2) (ix2 r' x))
      = ((√(gradX A b (top i + r.val) x.val * gradX A b (top i + r.val) x.val
          + gradY A b (top i + r.val) x.val * gradY A b (top i + r.val) x.val) : ℝ) : EReal) := by
    rintro _ rfl
    rw [gradX_reads h _ x a c, gradY_reads h _ x a c, ← EReal.coe_mul, ← EReal.coe_mul,
      ← EReal.coe_add, Ideal.sqrt_coe, if_neg (not_lt.mpr (add_nonneg (mul_self_nonneg _) (mul_self_nonneg _)))]
  have hx : (x.val : ℤ) < 1024 := by have := x.isLt; omega
  unfold k0_pay48
  pointwise [k0_pay14]
  rw [cmp_first i, cmp_last i]
  by_cases c1 : r.val < 8
  · rw [dif_pos c1]
    by_cases c2 : (i 1).val = 0
    · have o : ¬ Inside (top i + (r.val : ℤ)) (x.val : ℤ) := by
        intro k; have := k.1; unfold top at this; omega
      rw [if_pos c2, mag_out o]; rfl
    · rw [if_neg c2, key _ rfl, mag,
        if_pos ⟨⟨by unfold top; omega, by unfold top; omega⟩, by omega, hx⟩]; rfl
  · rw [dif_neg c1]
    by_cases c3 : r.val - 8 < 256
    · rw [dif_pos c3, key _ (Fin.ext (by simp only; omega)), mag,
        if_pos ⟨⟨by unfold top; omega, by unfold top; omega⟩, by omega, hx⟩]
    · rw [dif_neg c3]
      by_cases c4 : (i 1).val < 3
      · rw [if_pos c4, key _ (Fin.ext (by simp only; omega)), mag,
          if_pos ⟨⟨by unfold top; omega, by unfold top; omega⟩, by omega, hx⟩]; rfl
      · have o : ¬ Inside (top i + (r.val : ℤ)) (x.val : ℤ) := by
          intro k; have := k.1; unfold top at this; omega
        rw [if_neg c4, mag_out o]; rfl

open Classical in
/-- What the comparisons of the slope choose. -/
theorem selects (h : Blocks A b i x0 x1 x2) (r : Fin 272) (x : Fin 1024) (a : 1 ≤ r.val)
    (c : r.val ≤ 270) {α : Type} (u w : α) :
    (Scalar.select (k0_pay49 i x0 x1 x2 (ix2 r x)) u w
        = if slope A b (top i + r.val) x.val < 0 then u else w) ∧
    (Scalar.select (k0_pay50 i x0 x1 x2 (ix2 r x)) u w
        = if Above 1 (slope A b (top i + r.val) x.val) then u else w) ∧
    (Scalar.select (k0_pay51 i x0 x1 x2 (ix2 r x)) u w
        = if Above 2 (slope A b (top i + r.val) x.val) then u else w) ∧
    (Scalar.select (k0_pay52 i x0 x1 x2 (ix2 r x)) u w
        = if Above 3 (slope A b (top i + r.val) x.val) then u else w) ∧
    (Scalar.select (k0_pay53 i x0 x1 x2 (ix2 r x)) u w
        = if Above 4 (slope A b (top i + r.val) x.val) then u else w) := by
  refine ⟨?_, ?_, ?_, ?_, ?_⟩
  · unfold k0_pay49
    pointwise [k0_pay17, k0_pay15]
    rw [gradX_reads h r x a c, gradY_reads h r x a c]
    rfl
  · unfold k0_pay50
    pointwise [k0_pay18, k0_pay16, k0_pay15]
    rw [gradX_reads h r x a c, gradY_reads h r x a c, ofBits_t1]
    unfold Above slope thr
    congr
  · unfold k0_pay51
    pointwise [k0_pay19, k0_pay16, k0_pay15]
    rw [gradX_reads h r x a c, gradY_reads h r x a c, ofBits_t2]
    unfold Above slope thr
    congr
  · unfold k0_pay52
    pointwise [k0_pay20, k0_pay16, k0_pay15]
    rw [gradX_reads h r x a c, gradY_reads h r x a c, ofBits_t3]
    unfold Above slope thr
    congr
  · unfold k0_pay53
    pointwise [k0_pay21, k0_pay16, k0_pay15]
    rw [gradX_reads h r x a c, gradY_reads h r x a c, ofBits_t4]
    unfold Above slope thr
    congr

/-- The orientation. -/
theorem orient_reads (h : Blocks A b i x0 x1 x2) :
    Reads (top i) 1 270 (orient A b)
      (k0_pay23 (k0_pay49 i x0 x1 x2) (k0_pay51 i x0 x1 x2) (k0_pay52 i x0 x1 x2)
        (k0_pay53 i x0 x1 x2) (k0_pay22 (k0_pay45 i x0 x1 x2) (k0_pay46 i x0 x1 x2)
          (k0_pay47 i x0 x1 x2)) (Scalar.ofBits .f32 0x3F800000#32)
        (Scalar.ofBits .f32 0x00000000#32)) := by
  intro r x a c
  have e : k0_pay18 (k0_pay45 i x0 x1 x2) (k0_pay46 i x0 x1 x2) (k0_pay47 i x0 x1 x2)
    = k0_pay50 i x0 x1 x2 := rfl
  unfold k0_pay22
  rw [e]
  pointwise [k0_pay23]
  rw [(selects h r x a c _ _).1, (selects h r x a c _ _).2.1, (selects h r x a c _ _).2.2.1,
    (selects h r x a c _ _).2.2.2.1, (selects h r x a c _ _).2.2.2.2]
  rw [ofBits_fortyfive, ofBits_onehundredeighty]
  exact turn_degrees _

/-- The neighbours of a pixel. -/
theorem near_reads (h : Blocks A b i x0 x1 x2) :
    Reads (top i) 1 270 (mag A b) (k0_pay54 i x0 x1 x2) ∧
    Reads (top i) 2 269 (fun y x => mag A b (y + 1) x) (k0_pay55 i x0 x1 x2) ∧
    Reads (top i) 2 269 (fun y x => mag A b (y - 1) x) (k0_pay56 i x0 x1 x2) ∧
    Reads (top i) 1 270 (fun y x => mag A b y (x + 1)) (k0_pay57 i x0 x1 x2) ∧
    Reads (top i) 1 270 (fun y x => mag A b y (x - 1)) (k0_pay58 i x0 x1 x2) ∧
    Reads (top i) 2 269 (fun y x => mag A b (y - 1) (x + 1)) (k0_pay59 i x0 x1 x2) ∧
    Reads (top i) 2 269 (fun y x => mag A b (y - 1) (x - 1)) (k0_pay60 i x0 x1 x2) ∧
    Reads (top i) 2 269 (fun y x => mag A b (y + 1) (x + 1)) (k0_pay61 i x0 x1 x2) ∧
    Reads (top i) 2 269 (fun y x => mag A b (y + 1) (x - 1)) (k0_pay62 i x0 x1 x2) := by
  have m : Reads (top i) 1 270 (mag A b) (k0_pay54 i x0 x1 x2) := mag_reads h
  have z : Zero (mag A b) := fun y x k => mag_out (fun l => k l.2)
  have zu : Zero (fun y x => mag A b (y + 1) x) := fun y x k => mag_out (fun l => k l.2)
  have zd : Zero (fun y x => mag A b (y - 1) x) := fun y x k => mag_out (fun l => k l.2)
  have u : Reads (top i) 2 269 (fun y x => mag A b (y + 1) x) (k0_pay55 i x0 x1 x2) :=
    sup_reads m (by omega) (by omega) (by omega) slices_S272x1024_o1_0_S271x1024
      concatenates_S271x1024_S1x1024_S272x1024_d0
  have d : Reads (top i) 2 269 (fun y x => mag A b (y - 1) x) (k0_pay56 i x0 x1 x2) :=
    sdn_reads m (by omega) (by omega) slices_S272x1024_o0_0_S271x1024
      concatenates_S1x1024_S271x1024_S272x1024_d0
  refine ⟨m, u, d, ?_, ?_, ?_, ?_, ?_, ?_⟩
  · exact shl_reads m z slices_S272x1024_o0_1_S272x1023 concatenates_S272x1023_S272x1_S272x1024_d1
  · exact shr_reads m z slices_S272x1024_o0_0_S272x1023 concatenates_S272x1_S272x1023_S272x1024_d1
  · exact shl_reads d zd slices_S272x1024_o0_1_S272x1023 concatenates_S272x1023_S272x1_S272x1024_d1
  · exact shr_reads d zd slices_S272x1024_o0_0_S272x1023 concatenates_S272x1_S272x1023_S272x1024_d1
  · exact shl_reads u zu slices_S272x1024_o0_1_S272x1023 concatenates_S272x1023_S272x1_S272x1024_d1
  · exact shr_reads u zu slices_S272x1024_o0_0_S272x1023 concatenates_S272x1_S272x1023_S272x1024_d1

open Classical in
/-- The strength of the edge. -/
theorem strength_reads (h : Blocks A b i x0 x1 x2) :
    Reads (top i) 2 269 (strength A b)
      (k0_pay33 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2)) := by
  obtain ⟨m, u, d, e, w, ne, nw, se, sw⟩ := near_reads h
  intro r x a c
  have a' : 1 ≤ r.val := by omega
  have c' : r.val ≤ 270 := by omega
  pointwise [k0_pay33]
  rw [(selects h r x a' c' _ _).1, (selects h r x a' c' _ _).1, (selects h r x a' c' _ _).2.1, (selects h r x a' c' _ _).2.2.1,
    (selects h r x a' c' _ _).2.2.2.1, (selects h r x a' c' _ _).2.2.2.2]
  rw [mag_reads h r x a' c', m r x a' c', u r x a c, d r x a c, e r x a' c', w r x a' c',
    ne r x a c, nw r x a c, se r x a c, sw r x a c, ofBits_half]
  exact hot_across _ _ _ _ _ _ _ _ _ _ _ rfl

/-- A plane moved one column to the left. -/
def left (v : FVec Ideal S272x1024 .f32) : FVec Ideal S272x1024 .f32 :=
  concatenate S272x1024 1 [⟨S272x1023, extractStridedSlice S272x1023 ![0, 1] v
    slices_S272x1024_o0_1_S272x1023⟩, ⟨S272x1, broadcast S272x1 (Scalar.ofBits .f32 0x00000000#32 : Ideal .f32)⟩]
    concatenates_S272x1023_S272x1_S272x1024_d1

/-- A plane moved one column to the right. -/
def right (v : FVec Ideal S272x1024 .f32) : FVec Ideal S272x1024 .f32 :=
  concatenate S272x1024 1 [⟨S272x1, broadcast S272x1 (Scalar.ofBits .f32 0x00000000#32 : Ideal .f32)⟩,
    ⟨S272x1023, extractStridedSlice S272x1023 ![0, 0] v slices_S272x1024_o0_0_S272x1023⟩]
    concatenates_S272x1_S272x1023_S272x1024_d1

/-- A plane moved one row up. -/
def up (v : FVec Ideal S272x1024 .f32) : FVec Ideal S272x1024 .f32 :=
  concatenate S272x1024 0 [⟨S271x1024, extractStridedSlice S271x1024 ![1, 0] v
    slices_S272x1024_o1_0_S271x1024⟩, ⟨S1x1024, broadcast S1x1024 (Scalar.ofBits .f32 0x00000000#32 : Ideal .f32)⟩]
    concatenates_S271x1024_S1x1024_S272x1024_d0

/-- A plane moved one row down. -/
def down (v : FVec Ideal S272x1024 .f32) : FVec Ideal S272x1024 .f32 :=
  concatenate S272x1024 0 [⟨S1x1024, broadcast S1x1024 (Scalar.ofBits .f32 0x00000000#32 : Ideal .f32)⟩,
    ⟨S271x1024, extractStridedSlice S271x1024 ![0, 0] v slices_S272x1024_o0_0_S271x1024⟩]
    concatenates_S1x1024_S271x1024_S272x1024_d0

/-- A plane and its two neighbours in a row, together. -/
def three (v : FVec Ideal S272x1024 .f32) : FVec Ideal S272x1024 .f32 :=
  addf (addf (left v) v) (right v)

/-- A plane and its eight neighbours, together. -/
def around (v : FVec Ideal S272x1024 .f32) : FVec Ideal S272x1024 .f32 :=
  addf (addf (up (three v)) (three v)) (down (three v))

theorem nine_reads {y0 : ℤ} {v : FVec Ideal S272x1024 .f32} (s : Reads y0 2 269 (strength A b) v) :
    Reads y0 3 268 (nine A b) (around v) := by
  have z : Zero (strength A b) := fun y x k => strength_out (fun l => k l.2)
  have l : Reads y0 2 269 _ (left v) := shl_reads s z _ _
  have r : Reads y0 2 269 _ (right v) := shr_reads s z _ _
  have t : Reads y0 2 269 (trio A b) (three v) := by
    intro y x a c
    show (left v (ix2 y x) + v (ix2 y x)) + right v (ix2 y x) = _
    rw [l y x a c, s y x a c, r y x a c]
    simp only [← EReal.coe_add]
    rfl
  have u : Reads y0 3 268 _ (up (three v)) := sup_reads t (by omega) (by omega) (by omega) _ _
  have d : Reads y0 3 268 _ (down (three v)) := sdn_reads t (by omega) (by omega) _ _
  intro y x a c
  show (up (three v) (ix2 y x) + three v (ix2 y x)) + down (three v) (ix2 y x) = _
  rw [u y x a c, t y x (by omega) (by omega), d y x a c]
  simp only [← EReal.coe_add]
  rfl

/-- The thinned edges of a block, and the sums of strengths about each of its pixels. -/
theorem edge_at (h : Blocks A b i x0 x1 x2) (r : Fin 256) (x : Fin 1024) :
    k0_pay42 (k0_pay35 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2))
      (k0_pay36 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2))
      (k0_pay37 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2))
      (Scalar.ofBits .f32 0x3FA00000#32) (ix4 0 0 r x)
      = ((edge A b (256 * ((i 1).val : ℤ) + r.val) x.val : ℝ) : EReal) := by
  have s := strength_reads h
  generalize hv : k0_pay33 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2)
        = v at s
  have e : k0_pay37 (k0_pay48 i x0 x1 x2) (k0_pay49 i x0 x1 x2) (k0_pay50 i x0 x1 x2)
        (k0_pay51 i x0 x1 x2) (k0_pay52 i x0 x1 x2) (k0_pay53 i x0 x1 x2) (k0_pay54 i x0 x1 x2)
        (k0_pay55 i x0 x1 x2) (k0_pay56 i x0 x1 x2) (k0_pay57 i x0 x1 x2) (k0_pay58 i x0 x1 x2)
        (k0_pay59 i x0 x1 x2) (k0_pay60 i x0 x1 x2) (k0_pay61 i x0 x1 x2) (k0_pay62 i x0 x1 x2)
      = extractStridedSlice S256x1024 ![8, 0] (around v) slices_S272x1024_o8_0_S256x1024 := by
    rw [← hv]; rfl
  have n := nine_reads s
  rw [e]
  unfold k0_pay35 k0_pay36 k0_pay34
  rw [hv]
  generalize around v = vn at n
  pointwise [k0_pay42]
  rw [s _ x (by simp only; omega) (by simp only; omega), n _ x (by simp only; omega) (by simp only; omega),
    ofBits_half, ofBits_five_quarters]
  have ey : top i + ((8 + r.val : ℕ) : ℤ) = 256 * ((i 1).val : ℤ) + r.val := by unfold top; omega
  rw [ey]
  simp only [zero_coe, one_coe, ite_coe, EReal.coe_lt_coe_iff, ← EReal.coe_mul, EReal.coe_eq_coe_iff]
  unfold edge
  congr

/-- The rows of a block's results, of a plane of 272 rows. -/
theorem rows_at {f : ℤ → ℤ → ℝ} {v : FVec Ideal S272x1024 .f32} (h : Reads (top i) 1 270 f v)
    (r : Fin 256) (x : Fin 1024) :
    k0_pay38 v (ix4 0 0 r x) = ((f (256 * ((i 1).val : ℤ) + r.val) x.val : ℝ) : EReal) := by
  pointwise [k0_pay38]
  rw [h _ x (by simp only; omega) (by simp only; omega)]
  have ey : top i + ((8 + r.val : ℕ) : ℤ) = 256 * ((i 1).val : ℤ) + r.val := by unfold top; omega
  rw [ey]

end Cert.Canny

end
-- ==== Proof.Array.lean ====
/- What the kernel's five arrays hold after a run on a finite image. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Canny

open Idealize.ShloMosaic Idealize.ShloMosaic.TcCoe Idealize.SL.Sem
open Cert.KernelIdeal Cert.KernelIdeal.Gen

/-- A real function of image, row and column, as a result array. -/
def plane (f : Fin 8 → ℤ → ℤ → ℝ) : Res.Idx → EReal := fun j =>
  ((f (j 0) (j 2).val (j 3).val : ℝ) : EReal)

theorem idx_own : ∀ t : Fin cfg0.N, win0_0.index t
    = ![((grid0.coords t) 0).val, 0, ((grid0.coords t) 1).val, 0] :=
  (by decide +kernel : ∀ t : Fin grid0.N, win0_0.index t
    = ![((grid0.coords t) 0).val, 0, ((grid0.coords t) 1).val, 0])

theorem idx_above : ∀ t : Fin cfg0.N, win0_1.index t
    = ![((grid0.coords t) 0).val, 0, 32 * ((grid0.coords t) 1).val - 1, 0] :=
  (by decide +kernel : ∀ t : Fin grid0.N, win0_1.index t
    = ![((grid0.coords t) 0).val, 0, 32 * ((grid0.coords t) 1).val - 1, 0])

theorem idx_below : ∀ t : Fin cfg0.N, win0_2.index t
    = ![((grid0.coords t) 0).val, 0, min (32 * ((grid0.coords t) 1).val + 32) 127, 0] :=
  (by decide +kernel : ∀ t : Fin grid0.N, win0_2.index t
    = ![((grid0.coords t) 0).val, 0, min (32 * ((grid0.coords t) 1).val + 32) 127, 0])

theorem idx_out : ∀ t : Fin cfg0.N,
    win0_3.index t = ![((grid0.coords t) 0).val, 0, ((grid0.coords t) 1).val, 0] ∧
    win0_4.index t = ![((grid0.coords t) 0).val, 0, ((grid0.coords t) 1).val, 0] ∧
    win0_5.index t = ![((grid0.coords t) 0).val, 0, ((grid0.coords t) 1).val, 0] ∧
    win0_6.index t = ![((grid0.coords t) 0).val, 0, ((grid0.coords t) 1).val, 0] ∧
    win0_7.index t = ![((grid0.coords t) 0).val, 0, ((grid0.coords t) 1).val, 0] :=
  (by decide +kernel : ∀ t : Fin grid0.N,
    win0_3.index t = ![((grid0.coords t) 0).val, 0, ((grid0.coords t) 1).val, 0] ∧
    win0_4.index t = ![((grid0.coords t) 0).val, 0, ((grid0.coords t) 1).val, 0] ∧
    win0_5.index t = ![((grid0.coords t) 0).val, 0, ((grid0.coords t) 1).val, 0] ∧
    win0_6.index t = ![((grid0.coords t) 0).val, 0, ((grid0.coords t) 1).val, 0] ∧
    win0_7.index t = ![((grid0.coords t) 0).val, 0, ((grid0.coords t) 1).val, 0])

variable (m : (ℓ : Loc nD τ sig) → Buf (Elt Ideal) ℓ) (c : Dev nD)

/-- The image of a device. -/
abbrev image : Img.Idx → EReal := m ((c.tc : Thread nD τ).loc main_arg0)

/-- A pixel of a finite image at an index given by its coordinates. -/
theorem pix_at {A : Img.Idx → EReal} (hA : Finite A) (j : Img.Idx) (b : Fin 8) (k : Fin 3) (y x : ℤ)
    (h0 : (j 0).val = b.val) (h1 : (j 1).val = k.val) (h2 : ((j 2).val : ℤ) = y)
    (h3 : ((j 3).val : ℤ) = x) : A j = ((pix A b k y x : ℝ) : EReal) := by
  subst h2 h3
  rw [← pix_coe hA k (j 2) (j 3)]
  congr 1
  funext a
  fin_cases a
  · exact Fin.ext h0
  · exact Fin.ext h1
  · rfl
  · rfl

/-- The blocks a point of the grid reads are the image's. -/
theorem blocks (hA : Finite (image m c)) (t : Fin cfg0.N) :
    Blocks (image m c) ((grid0.coords t) 0) (grid0.coords t) (iblk m c 0 t) (iblk m c 1 t)
      (iblk m c 2 t) := by
  refine ⟨fun k r x => ?_, fun hi k r x => ?_, fun hi k r x => ?_⟩
  · refine pix_at hA ((win0_0.blk t).view.emb (ix4 0 k r x)) _ _ _ _ ?_ ?_ ?_ ?_ <;>
    · blk_simp [idx_own]
      try simp [ix4]
      try omega
  · refine pix_at hA ((win0_1.blk t).view.emb (ix4 0 k r x)) _ _ _ _ ?_ ?_ ?_ ?_ <;>
    · blk_simp [idx_above]
      try simp [ix4]
      try omega
  · refine pix_at hA ((win0_2.blk t).view.emb (ix4 0 k r x)) _ _ _ _ ?_ ?_ ?_ ?_ <;>
    · blk_simp [idx_below]
      try simp [ix4]
      try omega

/-- Where a point writes its rows. -/
theorem plane_at (f : Fin 8 → ℤ → ℤ → ℝ) (j : Res.Idx) (b : Fin 8) (y x : ℤ)
    (h0 : (j 0).val = b.val) (h2 : ((j 2).val : ℤ) = y) (h3 : ((j 3).val : ℤ) = x) :
    plane f j = ((f b y x : ℝ) : EReal) := by
  subst h2 h3
  have e : j 0 = b := Fin.ext h0
  subst e
  rfl

theorem zero_off : (![0, 0, 0, 0] : Fin 4 → ℕ) = fun _ => 0 := by
  funext a; fin_cases a <;> rfl

/-- A block index, by its row and column. -/
theorem ix_block (y : S1x1x256x1024.Idx) : y = ix4 0 0 (y 2) (y 3) := by
  funext a
  fin_cases a
  · exact Subsingleton.elim (α := Fin 1) _ _
  · exact Subsingleton.elim (α := Fin 1) _ _
  · rfl
  · rfl

theorem array_gradX (hA : Finite (image m c)) :
    (dats m 0 c).arrAt 3 cfg0.N = plane (gradX (image m c)) := by
  refine (dats m 0 c).arrAt_eq_of_covers 3 _ (by decide +kernel) fun t _ y => ?_
  have e : (dats m 0 c).after 3 t y = ((gradX (image m c) ((grid0.coords t) 0)
      (256 * (((grid0.coords t) 1).val : ℤ) + (y 2).val) (y 3).val : ℝ) : EReal) := by
    rw [after0_3]
    unfold out0_3
    rw [View.canon_unit_zero zero_off, ix_block y]
    exact rows_at (gradX_reads (blocks m c hA t)) (y 2) (y 3)
  refine Eq.trans ?_ (e.trans (plane_at _ ((win0_3.blk t).view.emb y) _ _ _ ?_ ?_ ?_).symm)
  · rfl
  all_goals
    have o := (idx_out t).1
    blk_simp [o]
    try simp
    try omega

theorem array_gradY (hA : Finite (image m c)) :
    (dats m 0 c).arrAt 4 cfg0.N = plane (gradY (image m c)) := by
  refine (dats m 0 c).arrAt_eq_of_covers 4 _ (by decide +kernel) fun t _ y => ?_
  have e : (dats m 0 c).after 4 t y = ((gradY (image m c) ((grid0.coords t) 0)
      (256 * (((grid0.coords t) 1).val : ℤ) + (y 2).val) (y 3).val : ℝ) : EReal) := by
    rw [after0_4]
    unfold out0_4
    rw [View.canon_unit_zero zero_off, ix_block y]
    exact rows_at (gradY_reads (blocks m c hA t)) (y 2) (y 3)
  refine Eq.trans ?_ (e.trans (plane_at _ ((win0_4.blk t).view.emb y) _ _ _ ?_ ?_ ?_).symm)
  · rfl
  all_goals
    have o := (idx_out t).2.1
    blk_simp [o]
    try simp
    try omega

theorem array_mag (hA : Finite (image m c)) :
    (dats m 0 c).arrAt 5 cfg0.N = plane (mag (image m c)) := by
  refine (dats m 0 c).arrAt_eq_of_covers 5 _ (by decide +kernel) fun t _ y => ?_
  have e : (dats m 0 c).after 5 t y = ((mag (image m c) ((grid0.coords t) 0)
      (256 * (((grid0.coords t) 1).val : ℤ) + (y 2).val) (y 3).val : ℝ) : EReal) := by
    rw [after0_5]
    unfold out0_5
    rw [View.canon_unit_zero zero_off, ix_block y]
    exact rows_at (mag_reads (blocks m c hA t)) (y 2) (y 3)
  refine Eq.trans ?_ (e.trans (plane_at _ ((win0_5.blk t).view.emb y) _ _ _ ?_ ?_ ?_).symm)
  · rfl
  all_goals
    have o := (idx_out t).2.2.1
    blk_simp [o]
    try simp
    try omega

theorem array_orient (hA : Finite (image m c)) :
    (dats m 0 c).arrAt 6 cfg0.N = plane (orient (image m c)) := by
  refine (dats m 0 c).arrAt_eq_of_covers 6 _ (by decide +kernel) fun t _ y => ?_
  have e : (dats m 0 c).after 6 t y = ((orient (image m c) ((grid0.coords t) 0)
      (256 * (((grid0.coords t) 1).val : ℤ) + (y 2).val) (y 3).val : ℝ) : EReal) := by
    rw [after0_6]
    unfold out0_6
    rw [View.canon_unit_zero zero_off, ix_block y]
    exact rows_at (orient_reads (blocks m c hA t)) (y 2) (y 3)
  refine Eq.trans ?_ (e.trans (plane_at _ ((win0_6.blk t).view.emb y) _ _ _ ?_ ?_ ?_).symm)
  · rfl
  all_goals
    have o := (idx_out t).2.2.2.1
    blk_simp [o]
    try simp
    try omega

theorem array_edge (hA : Finite (image m c)) :
    (dats m 0 c).arrAt 7 cfg0.N = plane (edge (image m c)) := by
  refine (dats m 0 c).arrAt_eq_of_covers 7 _ (by decide +kernel) fun t _ y => ?_
  have e : (dats m 0 c).after 7 t y = ((edge (image m c) ((grid0.coords t) 0)
      (256 * (((grid0.coords t) 1).val : ℤ) + (y 2).val) (y 3).val : ℝ) : EReal) := by
    rw [after0_7]
    unfold out0_7
    rw [View.canon_unit_zero zero_off, ix_block y]
    exact edge_at (blocks m c hA t) (y 2) (y 3)
  refine Eq.trans ?_ (e.trans (plane_at _ ((win0_7.blk t).view.emb y) _ _ _ ?_ ?_ ?_).symm)
  · rfl
  all_goals
    have o := (idx_out t).2.2.2.2
    blk_simp [o]
    try simp
    try omega

/-- The kernel's run on finite images. -/
theorem run_kernel (hA : ∀ c, Finite (image m c)) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = plane (gradX (image m c))
      ∧ r.2.mem ((c.tc : Thread nD τ).loc main_v0_1) = plane (gradY (image m c))
      ∧ r.2.mem ((c.tc : Thread nD τ).loc main_v0_2) = plane (mag (image m c))
      ∧ r.2.mem ((c.tc : Thread nD τ).loc main_v0_3) = plane (orient (image m c))
      ∧ r.2.mem ((c.tc : Thread nD τ).loc main_v0_4) = plane (edge (image m c))
      ∧ r.2.mem ((c.tc : Thread nD τ).loc main_arg0) = m ((c.tc : Thread nD τ).loc main_arg0) :=
  (θ_run defs _ _).mono (fun _ h c => ⟨(h c).1.trans (array_gradX m c (hA c)),
      (h c).2.1.trans (array_gradY m c (hA c)), (h c).2.2.1.trans (array_mag m c (hA c)),
      (h c).2.2.2.1.trans (array_orient m c (hA c)), (h c).2.2.2.2.1.trans (array_edge m c (hA c)),
      (h c).2.2.2.2.2⟩)
    (Cert.KernelIdeal.Value.run_blocks m ρ)

end Cert.Canny

end
-- ==== Proof.Ref.lean ====
/- What the reference's arrays hold, on a finite image. -/
module

public import proofs.«01_k».proof.Proof.Spec
public import proofs.«01_k».proof.Proof.Gen.ReferenceIdeal.Run

@[expose] public section

set_option maxRecDepth 16384

noncomputable section

namespace Cert.Canny

open Idealize.ShloMosaic Idealize.ShloMosaic.TcCoe Idealize.SL.Sem
open Cert.ReferenceIdeal Cert.ReferenceIdeal.Gen Cert.ReferenceIdeal.Value

variable (V0 : Valuation τ sig (Elt Ideal))

/-- The reference's image. -/
abbrev pict : Img.Idx → EReal := V0 (Proc.devRef .tc main_arg0)

/-- The reference's whole-number zero. -/
theorem int_zero : (FloatOps.sitofp FTy.f32 (0#32) : Ideal .f32) = ((0 : ℝ) : EReal) := by
  show (((0#32 : BitVec 32).toInt : ℝ) : EReal) = _
  simp

/-- An image with a border of zeros. -/
theorem pad_img {A : FVec Ideal S8x3x1024x1024 .f32} (hA : Finite A) (b : Fin 8) (c : Fin 3)
    (Y X : Fin 1026) :
    pad S8x3x1026x1026 ![0, 0, 1, 1] ![0, 0, 1, 1] ![0, 0, 0, 0] A
      (sitofp .f32 (constantI S_ 32 0#32)) pads_S8x3x1024x1024_S8x3x1026x1026_000_000_110_110 h_S_
      (ix4 b c Y X) = ((pix A b c ((Y.val : ℤ) - 1) ((X.val : ℤ) - 1) : ℝ) : EReal) := by
  pointwise
  split_ifs with h
  · rw [pix_coe hA]
    congr 2 <;> (simp only; omega)
  · rw [pix_out (fun k => h (by have := k.1; have := k.2; omega)), int_zero]

/-- A plane with a border of zeros. -/
theorem pad_plane (g : FVec Ideal S8x1x1024x1024 .f32) (f : ℤ → ℤ → ℝ) (b : Fin 8)
    (h0 : ∀ y x, ¬ Inside y x → f y x = 0) (Y X : Fin 1026)
    (hg : ∀ y x : Fin 1024, y.val + 1 = Y.val → x.val + 1 = X.val →
      g (ix4 b 0 y x) = ((f y.val x.val : ℝ) : EReal)) :
    pad S8x1x1026x1026 ![0, 0, 1, 1] ![0, 0, 1, 1] ![0, 0, 0, 0] g (sitofp .f32 (constantI S_ 32 0#32))
      pads_S8x1x1024x1024_S8x1x1026x1026_000_000_110_110 h_S_ (ix4 b 0 Y X)
      = ((f ((Y.val : ℤ) - 1) ((X.val : ℤ) - 1) : ℝ) : EReal) := by
  pointwise
  split_ifs with h
  · rw [hg _ _ (by simp only; omega) (by simp only; omega)]
    congr 2 <;> (simp only; omega)
  · rw [h0 _ _ (fun k => h (by have := k.1; have := k.2; omega)), int_zero]

theorem pad_pix (hA : Finite (pict V0)) (b : Fin 8) (c : Fin 3) (Y X : Fin 1026) :
    res_main_v0 V0 (ix4 b c Y X)
      = ((pix (pict V0) b c ((Y.val : ℤ) - 1) ((X.val : ℤ) - 1) : ℝ) : EReal) :=
  pad_img hA b c Y X

/-- The row or column of a tap, counted from the middle of the window. -/
theorem tap_one (y : ℕ) : (((1 + y : ℕ) : ℤ) - 1) = y := by omega

theorem tap_two (y : ℕ) : (((2 + y : ℕ) : ℤ) - 1) = y + 1 := by omega

theorem div_three (r : ℝ) : Ideal.div (r : EReal) ((3 : ℝ) : EReal) = ((r * (1 / 3) : ℝ) : EReal) := by
  rw [Ideal.div_coe (by norm_num), ← EReal.coe_mul]

theorem ref_gradX (hA : Finite (pict V0)) (b : Fin 8) (y x : Fin 1024) :
    res_main_v73 V0 (ix4 b 0 y x) = ((gradX (pict V0) b y.val x.val : ℝ) : EReal) := by
  pointwise [res_main_v73]
  simp only [pad_pix V0 hA, tap_one, tap_two, ofBits_half, ofBits_neg_half, ofBits_neg_one,
    ofBits_three, ← EReal.coe_mul, ← EReal.coe_add, div_three]
  congr 1
  unfold gradX smooth mean
  ring

theorem ref_gradY (hA : Finite (pict V0)) (b : Fin 8) (y x : Fin 1024) :
    res_main_v147 V0 (ix4 b 0 y x) = ((gradY (pict V0) b y.val x.val : ℝ) : EReal) := by
  have hp : ∀ (c : Fin 3) (Y X : Fin 1026), res_main_v74 V0 (ix4 b c Y X)
      = ((pix (pict V0) b c ((Y.val : ℤ) - 1) ((X.val : ℤ) - 1) : ℝ) : EReal) :=
    pad_pix V0 hA b
  pointwise [res_main_v147]
  simp only [hp, tap_one, tap_two, ofBits_half, ofBits_neg_half, ofBits_neg_one,
    ofBits_three, ← EReal.coe_mul, ← EReal.coe_add, div_three]
  congr 1
  unfold gradY drop mean
  ring

theorem inside_fin (y x : Fin 1024) : Inside (y.val : ℤ) (x.val : ℤ) := ⟨by omega, by omega⟩

theorem ref_mag (hA : Finite (pict V0)) (b : Fin 8) (y x : Fin 1024) :
    res_main_v151 V0 (ix4 b 0 y x) = ((mag (pict V0) b y.val x.val : ℝ) : EReal) := by
  pointwise [res_main_v151]
  rw [ref_gradX V0 hA, ref_gradY V0 hA, ← EReal.coe_mul, ← EReal.coe_mul, ← EReal.coe_add,
    Ideal.sqrt_coe, if_neg (not_lt.mpr (add_nonneg (mul_self_nonneg _) (mul_self_nonneg _)))]
  congr 1
  exact (if_pos (inside_fin y x)).symm

/-- The length of the gradient with a border of zeros. -/
theorem pad_mag (hA : Finite (pict V0)) (b : Fin 8) (Y X : Fin 1026) :
    res_main_v166 V0 (ix4 b 0 Y X)
      = ((mag (pict V0) b ((Y.val : ℤ) - 1) ((X.val : ℤ) - 1) : ℝ) : EReal) :=
  pad_plane _ _ b (fun _ _ => mag_out) Y X fun y x _ _ => ref_mag V0 hA b y x

/-- The direction of the gradient before it is taken modulo 8. -/
theorem ref_step (hA : Finite (pict V0)) (b : Fin 8) (y x : Fin 1024) :
    Ideal.liftRound Ideal.roundHalfEven
      (Ideal.div (Ideal.atan (Ideal.div (res_main_v147 V0 (ix4 b 0 y x)) (res_main_v73 V0 (ix4 b 0 y x)))
        * Ideal.div (Ideal.ofBits .f32 0x43B40000#32)
          (Ideal.ofBits .f32 0x40800000#32 * Ideal.atan 1)
        + Ideal.ofBits .f32 0x43340000#32) (Ideal.ofBits .f32 0x42340000#32))
      = step (slope (pict V0) b y.val x.val) := by
  rw [ref_gradX V0 hA, ref_gradY V0 hA, ofBits_threehundredsixty, ofBits_four,
    ofBits_onehundredeighty, ofBits_fortyfive]
  rfl

/-- The remainder by eight of a whole number from 0 to 8. -/
theorem rem_eight (k : ℤ) (h0 : 0 ≤ k) (h1 : k ≤ 8) :
    Ideal.remf (Ideal.div (((k : ℝ) : EReal) * ((45 : ℝ) : EReal)) ((45 : ℝ) : EReal))
      ((8 : ℝ) : EReal) = (((k % 8).toNat : ℝ) : EReal) := by
  have e : (k : ℝ) * 45 * (1 / 45) = k := by ring
  rw [← EReal.coe_mul, Ideal.div_coe (by norm_num), ← EReal.coe_mul, e, Ideal.remf_coe,
    if_neg (by norm_num)]
  congr 1
  have hk : (0 : ℝ) ≤ (k : ℝ) / 8 := div_nonneg (by exact_mod_cast h0) (by norm_num)
  rw [Ideal.truncInt, if_pos hk]
  rcases eq_or_lt_of_le h1 with rfl | h
  · norm_num
  · have hf : ⌊(k : ℝ) / 8⌋ = 0 := by
      rw [Int.floor_eq_zero_iff]
      have : (k : ℝ) < 8 := by exact_mod_cast h
      exact ⟨hk, by rw [div_lt_one (by norm_num)]; exact this⟩
    rw [hf, Int.emod_eq_of_lt h0 h]
    have : ((k.toNat : ℤ) : ℝ) = k := by rw [Int.toNat_of_nonneg h0]
    rw [← this]
    push_cast
    ring

theorem int_eight : (FloatOps.sitofp FTy.f32 (8#32) : Ideal .f32) = ((8 : ℝ) : EReal) := by
  show (((8#32 : BitVec 32).toInt : ℝ) : EReal) = _
  have e : (8#32 : BitVec 32).toInt = 8 := by decide
  rw [e]
  norm_num

/-- The direction of the gradient among the eight. -/
theorem ref_pos (hA : Finite (pict V0)) (b : Fin 8) (y x : Fin 1024)
    (h : Off (slope (pict V0) b y.val x.val)) :
    (res_main_v232 V0 : FVec Ideal S8x1x1024x1024 .f32) (ix4 b 0 y x)
      = ((pos (slope (pict V0) b y.val x.val) : ℝ) : EReal) := by
  pointwise [res_main_v232, res_main_call11_v2, res_main_call11_v0]
  have tb := turn_bounds (slope (pict V0) b y.val x.val)
  rw [ref_step V0 hA, step_eq _ h, ofBits_fortyfive, int_eight,
    rem_eight _ (by omega) (by omega)]
  have e1 : ¬ ((((4 + turn (slope (pict V0) b y.val x.val)) % 8).toNat : ℝ) : EReal) < 0 := by
    rw [not_lt]; exact_mod_cast Nat.cast_nonneg _
  have e2 : ¬ (((8 : ℝ) : EReal) < 0) := by
    rw [not_lt]; exact_mod_cast (by norm_num : (0 : ℝ) ≤ 8)
  rw [decide_eq_false e1, decide_eq_false e2]
  simp [IntOp.cmpi, IntOp.andi, Scalar.select, pos]

theorem ref_orient (hA : Finite (pict V0)) (b : Fin 8) (y x : Fin 1024)
    (h : Off (slope (pict V0) b y.val x.val)) :
    mulf (Host.roundeven (Host.divf (addf (mulf (Host.atan (Host.divf (res_main_v147 V0) (res_main_v73 V0))) (broadcastInDim S8x1x1024x1024 ![] bcast_S_S8x1x1024x1024 (Host.divf (constant S_ .f32 0x43B40000#32) (mulf (constant S_ .f32 0x40800000#32) (Host.atan (constant S_ .f32 0x3F800000#32)))))) (broadcastInDim S8x1x1024x1024 ![] bcast_S_S8x1x1024x1024 (constant S_ .f32 0x43340000#32))) (broadcastInDim S8x1x1024x1024 ![] bcast_S_S8x1x1024x1024 (constant S_ .f32 0x42340000#32)))) (broadcastInDim S8x1x1024x1024 ![] bcast_S_S8x1x1024x1024 (constant S_ .f32 0x42340000#32))
      (ix4 b 0 y x) = ((orient (pict V0) b y.val x.val : ℝ) : EReal) := by
  pointwise
  rw [ref_step V0 hA, step_eq _ h, ofBits_fortyfive, ← EReal.coe_mul]
  congr 1
  unfold orient
  push_cast
  ring

/-- Both one-sided differences are above zero exactly when the middle is above both neighbours. -/
theorem gap_outer (n s c : ℝ) :
    (0 < min ((n : EReal) * Ideal.ofBits .f32 0xBF800000#32 + (c : EReal))
      ((c : EReal) + (s : EReal) * Ideal.ofBits .f32 0xBF800000#32)) ↔ max n s < c := by
  rw [ofBits_neg_one, ← EReal.coe_mul, ← EReal.coe_mul, ← EReal.coe_add, ← EReal.coe_add, min_coe,
    zero_coe, EReal.coe_lt_coe_iff, lt_min_iff, max_lt_iff]
  constructor <;> rintro ⟨h, k⟩ <;> constructor <;> linarith

theorem gap_inner (e w c : ℝ) :
    (0 < min ((c : EReal) + (e : EReal) * Ideal.ofBits .f32 0xBF800000#32)
      ((w : EReal) * Ideal.ofBits .f32 0xBF800000#32 + (c : EReal))) ↔ max e w < c := by
  rw [min_comm, gap_outer, max_comm]

/-- A choice by bits, as a choice by propositions. -/
theorem choose_unless (X P Q : Prop) [Decidable X] [Decidable P] [Decidable Q] {α : Type} (u w : α) :
    Scalar.select (IntOp.andi (~~~BitVec.ofBool (decide X))
      (IntOp.ori (BitVec.ofBool (decide P)) (BitVec.ofBool (decide Q)))) u w
      = if (P ∨ Q) ∧ ¬ X then u else w := by
  by_cases a : X <;> by_cases b : P <;> by_cases d : Q <;>
    simp [a, b, d, IntOp.andi, IntOp.ori, Scalar.select]

/-- One step of the thinning: along one of four directions. -/
theorem stage (p k l : ℕ) {K L D V : EReal} {n s c w : ℝ} (hK : K = ((k : ℝ) : EReal))
    (hL : L = ((l : ℝ) : EReal)) (hD : 0 < D ↔ max n s < c) (hV : V = ((w : ℝ) : EReal))
    [Decidable (0 < D)] [Decidable (((p : ℝ) : EReal) = K)] [Decidable (((p : ℝ) : EReal) = L)] :
    Scalar.select (IntOp.andi (~~~BitVec.ofBool (decide (0 < D)))
      (IntOp.ori (BitVec.ofBool (decide (((p : ℝ) : EReal) = K)))
        (BitVec.ofBool (decide (((p : ℝ) : EReal) = L)))))
      (id (constant S_ FTy.f32 (0#32)) ix0 : Ideal .f32) V
      = (((if (p = k ∨ p = l) ∧ ¬ max n s < c then 0 else w : ℝ)) : EReal) := by
  subst hV
  have z : (id (constant S_ FTy.f32 (0#32)) ix0 : Ideal .f32) = ((0 : ℝ) : EReal) := by
    show Ideal.ofBits .f32 (0#32) = _
    simp [Ideal.ofBits, Ideal.ieee]
  have eK : ((p : ℝ) : EReal) = K ↔ p = k := by rw [hK, EReal.coe_eq_coe_iff, Nat.cast_inj]
  have eL : ((p : ℝ) : EReal) = L ↔ p = l := by rw [hL, EReal.coe_eq_coe_iff, Nat.cast_inj]
  rw [choose_unless, z, ite_coe]
  simp only [hD, eK, eL]

theorem ref_thin (hA : Finite (pict V0)) (b : Fin 8) (y x : Fin 1024)
    (h : Off (slope (pict V0) b y.val x.val)) :
    (res_main_v276 V0 : FVec Ideal S8x1x1024x1024 .f32) (ix4 b 0 y x)
      = ((thin (pict V0) b y.val x.val : ℝ) : EReal) := by
  pointwise [res_main_v276, res_main_v265]
  rw [ref_pos V0 hA b y x h]
  have h166 : ∀ Y X : Fin 1026, res_main_v166 V0 (ix4 b 0 Y X)
      = ((mag (pict V0) b ((Y.val : ℤ) - 1) ((X.val : ℤ) - 1) : ℝ) : EReal) := pad_mag V0 hA b
  have h174 : ∀ Y X : Fin 1026, res_main_v174 V0 (ix4 b 0 Y X)
      = ((mag (pict V0) b ((Y.val : ℤ) - 1) ((X.val : ℤ) - 1) : ℝ) : EReal) := pad_mag V0 hA b
  have h182 : ∀ Y X : Fin 1026, res_main_v182 V0 (ix4 b 0 Y X)
      = ((mag (pict V0) b ((Y.val : ℤ) - 1) ((X.val : ℤ) - 1) : ℝ) : EReal) := pad_mag V0 hA b
  have h190 : ∀ Y X : Fin 1026, res_main_v190 V0 (ix4 b 0 Y X)
      = ((mag (pict V0) b ((Y.val : ℤ) - 1) ((X.val : ℤ) - 1) : ℝ) : EReal) := pad_mag V0 hA b
  have h198 : ∀ Y X : Fin 1026, res_main_v198 V0 (ix4 b 0 Y X)
      = ((mag (pict V0) b ((Y.val : ℤ) - 1) ((X.val : ℤ) - 1) : ℝ) : EReal) := pad_mag V0 hA b
  have h206 : ∀ Y X : Fin 1026, res_main_v206 V0 (ix4 b 0 Y X)
      = ((mag (pict V0) b ((Y.val : ℤ) - 1) ((X.val : ℤ) - 1) : ℝ) : EReal) := pad_mag V0 hA b
  have h214 : ∀ Y X : Fin 1026, res_main_v214 V0 (ix4 b 0 Y X)
      = ((mag (pict V0) b ((Y.val : ℤ) - 1) ((X.val : ℤ) - 1) : ℝ) : EReal) := pad_mag V0 hA b
  have h222 : ∀ Y X : Fin 1026, res_main_v222 V0 (ix4 b 0 Y X)
      = ((mag (pict V0) b ((Y.val : ℤ) - 1) ((X.val : ℤ) - 1) : ℝ) : EReal) := pad_mag V0 hA b
  simp only [h166, h174, h182, h190, h198, h206, h214, h222, tap_one, tap_two]
  exact stage _ 3 7 (by rw [ofBits_three]; norm_num) (by rw [ofBits_seven]; norm_num) (gap_outer _ _ _)
    (stage _ 2 6 (by rw [ofBits_two]; norm_num) (by rw [ofBits_six]; norm_num) (gap_outer _ _ _)
      (stage _ 1 5 (by norm_num) (by rw [ofBits_five]; norm_num) (gap_outer _ _ _)
        (stage _ 0 4 (by norm_num) (by rw [ofBits_four]; norm_num) (gap_inner _ _ _)
          (ref_mag V0 hA b y x))))

/-- A comparison as a number. -/
theorem bit_coe (P : Prop) [Decidable P] :
    (FloatOps.uitofp FTy.f32 (BitVec.ofBool (decide P)) : Ideal .f32) = ((if P then 1 else 0 : ℝ) : EReal) := by
  show (((BitVec.ofBool (decide P)).toNat : ℝ) : EReal) = _
  by_cases h : P <;> simp [h]

theorem ref_strong (hA : Finite (pict V0)) (b : Fin 8) (y x : Fin 1024)
    (h : Off (slope (pict V0) b y.val x.val)) :
    (res_main_v282 V0 : FVec Ideal S8x1x1024x1024 .f32) (ix4 b 0 y x)
      = ((if 1 < thin (pict V0) b y.val x.val then 1 else 0 : ℝ) : EReal) := by
  pointwise [res_main_v282]
  rw [ref_thin V0 hA b y x h, bit_coe]
  simp only [one_coe, EReal.coe_lt_coe_iff]

theorem ref_strength (hA : Finite (pict V0)) (b : Fin 8) (y x : Fin 1024)
    (h : Off (slope (pict V0) b y.val x.val)) :
    (res_main_v287 V0 : FVec Ideal S8x1x1024x1024 .f32) (ix4 b 0 y x)
      = ((strength (pict V0) b y.val x.val : ℝ) : EReal) := by
  pointwise [res_main_v287]
  rw [ref_strong V0 hA b y x h, ref_thin V0 hA b y x h, bit_coe, ofBits_half]
  simp only [EReal.coe_lt_coe_iff]
  rw [← EReal.coe_mul, ← EReal.coe_mul, ← EReal.coe_add]
  congr 1
  unfold strength hot
  split_ifs <;> norm_num

theorem bit_and (P Q : Prop) [Decidable P] [Decidable Q] :
    (FloatOps.uitofp FTy.f32 (IntOp.andi (BitVec.ofBool (decide P)) (BitVec.ofBool (decide Q))) : Ideal .f32)
      = ((if P ∧ Q then 1 else 0 : ℝ) : EReal) := by
  show (((IntOp.andi (BitVec.ofBool (decide P)) (BitVec.ofBool (decide Q))).toNat : ℝ) : EReal) = _
  by_cases h : P <;> by_cases k : Q <;> simp [h, k, IntOp.andi]

/-- The strong pixels and the weak ones joined, from a pixel's thinned value. -/
theorem edge_sum (t q : ℝ) :
    (if 1 < t then 1 else 0 : ℝ) + (if 1 < q ∧ hot t = 1 / 2 then 1 else 0)
      = if hot t = 1 then 1 else if hot t = 1 / 2 then (if 1 < q then 1 else 0) else 0 := by
  by_cases a : 1 < t
  · have h : hot t = 1 := by unfold hot; rw [if_pos a, if_pos (by linarith)]; norm_num
    rw [h, if_pos a, if_pos rfl, if_neg (by norm_num)]; norm_num
  · by_cases c : 1 / 2 < t
    · have h : hot t = 1 / 2 := by unfold hot; rw [if_neg a, if_pos c]; norm_num
      rw [h, if_neg a]; norm_num
    · have h : hot t = 0 := by unfold hot; rw [if_neg a, if_neg c]; norm_num
      rw [h, if_neg a]; norm_num

/-- Every pixel of a three by three window that lies inside the image has a slope off the margins. -/
def OffAll (A : Img.Idx → EReal) (b : Fin 8) (y x : Fin 1024) : Prop :=
  ∀ y' x' : Fin 1024, y'.val ≤ y.val + 1 → y.val ≤ y'.val + 1 → x'.val ≤ x.val + 1 →
    x.val ≤ x'.val + 1 → Off (slope A b y'.val x'.val)

theorem ref_edge (hA : Finite (pict V0)) (b : Fin 8) (y x : Fin 1024) (h : OffAll (pict V0) b y x) :
    addf (res_main_v282 V0) (uitofp .f32 (andi (cmpf .ogt (addf (addf (addf (addf (addf (addf (addf (addf (mulf (extractStridedSlice S8x1x1024x1024 ![0, 0, 0, 0] (res_main_v290 V0) slices_S8x1x1026x1026_S8x1x1024x1024_0_0_0_0) (broadcastInDim S8x1x1024x1024 ![] bcast_S_S8x1x1024x1024 (constant S_ .f32 0x3FA00000#32))) (mulf (extractStridedSlice S8x1x1024x1024 ![0, 0, 0, 1] (res_main_v290 V0) slices_S8x1x1026x1026_S8x1x1024x1024_0_0_0_1) (broadcastInDim S8x1x1024x1024 ![] bcast_S_S8x1x1024x1024 (constant S_ .f32 0x3FA00000#32)))) (mulf (extractStridedSlice S8x1x1024x1024 ![0, 0, 0, 2] (res_main_v290 V0) slices_S8x1x1026x1026_S8x1x1024x1024_0_0_0_2) (broadcastInDim S8x1x1024x1024 ![] bcast_S_S8x1x1024x1024 (constant S_ .f32 0x3FA00000#32)))) (mulf (extractStridedSlice S8x1x1024x1024 ![0, 0, 1, 0] (res_main_v290 V0) slices_S8x1x1026x1026_S8x1x1024x1024_0_0_1_0) (broadcastInDim S8x1x1024x1024 ![] bcast_S_S8x1x1024x1024 (constant S_ .f32 0x3FA00000#32)))) (mulf (extractStridedSlice S8x1x1024x1024 ![0, 0, 1, 1] (res_main_v290 V0) slices_S8x1x1026x1026_S8x1x1024x1024_0_0_1_1) (broadcastInDim S8x1x1024x1024 ![] bcast_S_S8x1x1024x1024 (constant S_ .f32 0x3FA00000#32)))) (mulf (extractStridedSlice S8x1x1024x1024 ![0, 0, 1, 2] (res_main_v290 V0) slices_S8x1x1026x1026_S8x1x1024x1024_0_0_1_2) (broadcastInDim S8x1x1024x1024 ![] bcast_S_S8x1x1024x1024 (constant S_ .f32 0x3FA00000#32)))) (mulf (extractStridedSlice S8x1x1024x1024 ![0, 0, 2, 0] (res_main_v290 V0) slices_S8x1x1026x1026_S8x1x1024x1024_0_0_2_0) (broadcastInDim S8x1x1024x1024 ![] bcast_S_S8x1x1024x1024 (constant S_ .f32 0x3FA00000#32)))) (mulf (extractStridedSlice S8x1x1024x1024 ![0, 0, 2, 1] (res_main_v290 V0) slices_S8x1x1026x1026_S8x1x1024x1024_0_0_2_1) (broadcastInDim S8x1x1024x1024 ![] bcast_S_S8x1x1024x1024 (constant S_ .f32 0x3FA00000#32)))) (mulf (extractStridedSlice S8x1x1024x1024 ![0, 0, 2, 2] (res_main_v290 V0) slices_S8x1x1026x1026_S8x1x1024x1024_0_0_2_2) (broadcastInDim S8x1x1024x1024 ![] bcast_S_S8x1x1024x1024 (constant S_ .f32 0x3FA00000#32)))) (broadcastInDim S8x1x1024x1024 ![] bcast_S_S8x1x1024x1024 (constant S_ .f32 0x3F800000#32))) (cmpf .oeq (res_main_v287 V0) (broadcastInDim S8x1x1024x1024 ![] bcast_S_S8x1x1024x1024 (constant S_ .f32 0x3F000000#32)))))
      (ix4 b 0 y x) = ((edge (pict V0) b y.val x.val : ℝ) : EReal) := by
  have hs : ∀ Y X : Fin 1026, y.val ≤ Y.val → Y.val ≤ y.val + 2 → x.val ≤ X.val →
      X.val ≤ x.val + 2 → res_main_v290 V0 (ix4 b 0 Y X)
        = ((strength (pict V0) b ((Y.val : ℤ) - 1) ((X.val : ℤ) - 1) : ℝ) : EReal) :=
    fun Y X h1 h2 h3 h4 => pad_plane _ _ b (fun _ _ => strength_out) Y X fun y' x' e1 e2 =>
      ref_strength V0 hA b y' x' (h y' x' (by omega) (by omega) (by omega) (by omega))
  have ho := h y x (by omega) (by omega) (by omega) (by omega)
  pointwise
  rw [ref_strong V0 hA b y x ho, ref_strength V0 hA b y x ho, bit_and]
  simp (disch := (simp only; omega)) only [hs]
  simp only [tap_one, tap_two, ofBits_five_quarters, ofBits_half, one_coe, ← EReal.coe_mul,
    ← EReal.coe_add, EReal.coe_lt_coe_iff, EReal.coe_eq_coe_iff]
  congr 1
  have e : nine (pict V0) b y.val x.val * (5 / 4)
      = strength (pict V0) b ((y.val : ℤ) - 1) ((x.val : ℤ) - 1) * (5 / 4)
        + strength (pict V0) b ((y.val : ℤ) - 1) x.val * (5 / 4)
        + strength (pict V0) b ((y.val : ℤ) - 1) ((x.val : ℤ) + 1) * (5 / 4)
        + strength (pict V0) b y.val ((x.val : ℤ) - 1) * (5 / 4)
        + strength (pict V0) b y.val x.val * (5 / 4)
        + strength (pict V0) b y.val ((x.val : ℤ) + 1) * (5 / 4)
        + strength (pict V0) b ((y.val : ℤ) + 1) ((x.val : ℤ) - 1) * (5 / 4)
        + strength (pict V0) b ((y.val : ℤ) + 1) x.val * (5 / 4)
        + strength (pict V0) b ((y.val : ℤ) + 1) ((x.val : ℤ) + 1) * (5 / 4) := by
    unfold nine trio; ring
  rw [← e]
  unfold edge
  refine Eq.trans ?_ ((edge_sum (thin (pict V0) b y.val x.val) (nine (pict V0) b y.val x.val * (5 / 4))).trans ?_)
  · rfl
  · unfold strength; congr 1

end Cert.Canny

end
-- ==== Proof.Mask.lean ====
/- What the precondition and the mask say of an image. -/
module

public import proofs.«01_k».proof.Proof.Ref
public import proofs.«01_k».proof.Proof.Gen.Pre_finite
public import proofs.«01_k».proof.Proof.Gen.On_off_boundaries
public import Idealize.ShloMosaic.Lib.ReduceAll

@[expose] public section

set_option maxRecDepth 16384

noncomputable section

namespace Cert.Canny

open Idealize.ShloMosaic Idealize.ShloMosaic.TcCoe
open Cert.ReferenceIdeal Cert.ReferenceIdeal.Gen Cert.ReferenceIdeal.Value

theorem and_one (u v : BitVec 1) : IntOp.andi u v = 1#1 ↔ u = 1#1 ∧ v = 1#1 := by
  revert u v; decide

theorem or_one (u v : BitVec 1) : IntOp.ori u v = 1#1 ↔ u = 1#1 ∨ v = 1#1 := by
  revert u v; decide

theorem bit_one (P : Prop) [Decidable P] : BitVec.ofBool (decide P) = 1#1 ↔ P := by
  by_cases h : P <;> simp [h]

/-- An image the precondition holds of is finite. -/
theorem finite_of_pre (A : FVec Ideal S8x3x1024x1024 .f32)
    (h : Cert.Pre_finite.fn (F := Ideal) A = fun _ => 1#1) : Finite A := by
  intro i
  haveI : Subsingleton Cert.Pre_finite.S_.Idx := ⟨fun a b => funext fun k => k.elim0⟩
  have e : cmpf .olt (Host.absf A) (broadcastInDim S8x3x1024x1024 ![] Cert.Pre_finite.Gen.bcast_S_S8x3x1024x1024
      (constant S_ .f32 0x7F800000#32)) i = 1#1 :=
    Host.reduce_andi_all _ _ _ _ ix0 (congrFun h ix0) i
  have k : max (A i) (-(A i)) < Ideal.ofBits .f32 0x7F800000#32 := (bit_one _).1 e
  rw [ofBits_top] at k
  constructor
  · intro t; rw [t] at k; simp at k
  · intro t; rw [t] at k; simp at k

/-- The mask's slopes off the margins, as bits. -/
def offBits (s : FVec Ideal S8x1x1024x1024 .f32) : IVec S8x1x1024x1024 1 :=
  let k (w : BitVec 32) : FVec Ideal S8x1x1024x1024 .f32 :=
    broadcastInDim S8x1x1024x1024 ![] bcast_S_S8x1x1024x1024 (constant S_ .f32 w)
  andi (andi (andi (andi (broadcastInDim S8x1x1024x1024 ![] bcast_S_S8x1x1024x1024 (constantI S_ 1 1#1))
    (ori (cmpf .olt s (k 0x3E4BAF6F#32)) (cmpf .ogt s (k 0x3E4BAFEF#32))))
    (ori (cmpf .olt s (k 0x3F2B0DB1#32)) (cmpf .ogt s (k 0x3F2B0DD1#32))))
    (ori (cmpf .olt s (k 0x3FBF90BF#32)) (cmpf .ogt s (k 0x3FBF90CF#32))))
    (ori (cmpf .olt s (k 0x40A0DFF5#32)) (cmpf .ogt s (k 0x40A0DFF9#32)))

variable (V0 : Valuation τ sig (Elt Ideal))

/-- The mask's slopes. -/
def sizes : FVec Ideal S8x1x1024x1024 .f32 :=
  Host.absf (Host.divf (res_main_v147 V0) (res_main_v73 V0))

theorem mask_part8 : Cert.On_off_boundaries.fn (F := Ideal) (pict V0)
    = Cert.On_off_boundaries.fn_part8 (sizes V0)
      (broadcastInDim S8x1x1024x1024 ![] bcast_S_S8x1x1024x1024 (constantI S_ 1 1#1)) := rfl

theorem mask_off : (Cert.On_off_boundaries.fn (F := Ideal) (pict V0)).2.2.2.1 = offBits (sizes V0) := by
  rw [mask_part8]; rfl

/-- A bit of the mask's slopes. -/
theorem off_of_bit (hA : Finite (pict V0)) (b : Fin 8) (y x : Fin 1024)
    (h : offBits (sizes V0) (ix4 b 0 y x) = 1#1) : Off (slope (pict V0) b y.val x.val) := by
  unfold offBits sizes at h
  pointwise at h
  rw [ref_gradX V0 hA, ref_gradY V0 hA, ofBits_lo1, ofBits_hi1, ofBits_lo2, ofBits_hi2, ofBits_lo3,
    ofBits_hi3, ofBits_lo4, ofBits_hi4] at h
  simp only [and_one, or_one, bit_one] at h
  exact ⟨h.1.1.1.2, h.1.1.2, h.1.2, h.2⟩

/-- Where an array is one, as bits. -/
def ones (s : FVec Ideal S8x1x1024x1024 .f32) : IVec S8x1x1024x1024 1 :=
  cmpf .oeq s (broadcastInDim S8x1x1024x1024 ![] bcast_S_S8x1x1024x1024 (constant S_ .f32 0x3F800000#32))

/-- The bits as numbers, with a border of ones. -/
def framed (o : IVec S8x1x1024x1024 1) : FVec Ideal S8x1x1026x1026 .f32 :=
  pad S8x1x1026x1026 ![0, 0, 1, 1] ![0, 0, 1, 1] ![0, 0, 0, 0] (uitofp (F := Ideal) .f32 o)
    (constant S_ .f32 0x3F800000#32) pads_S8x1x1024x1024_S8x1x1026x1026_000_000_110_110 h_S_

/-- The bits of the whole window. -/
def nearBits (f : FVec Ideal S8x1x1026x1026 .f32) : IVec S8x1x1024x1024 1 :=
  andi (andi (andi (andi (andi (andi (andi (andi (andi
    (broadcastInDim S8x1x1024x1024 ![] bcast_S_S8x1x1024x1024 (constantI S_ 1 1#1))
    (ones (extractStridedSlice S8x1x1024x1024 ![0, 0, 0, 0] f slices_S8x1x1026x1026_S8x1x1024x1024_0_0_0_0)))
    (ones (extractStridedSlice S8x1x1024x1024 ![0, 0, 0, 1] f slices_S8x1x1026x1026_S8x1x1024x1024_0_0_0_1)))
    (ones (extractStridedSlice S8x1x1024x1024 ![0, 0, 0, 2] f slices_S8x1x1026x1026_S8x1x1024x1024_0_0_0_2)))
    (ones (extractStridedSlice S8x1x1024x1024 ![0, 0, 1, 0] f slices_S8x1x1026x1026_S8x1x1024x1024_0_0_1_0)))
    (ones (extractStridedSlice S8x1x1024x1024 ![0, 0, 1, 1] f slices_S8x1x1026x1026_S8x1x1024x1024_0_0_1_1)))
    (ones (extractStridedSlice S8x1x1024x1024 ![0, 0, 1, 2] f slices_S8x1x1026x1026_S8x1x1024x1024_0_0_1_2)))
    (ones (extractStridedSlice S8x1x1024x1024 ![0, 0, 2, 0] f slices_S8x1x1026x1026_S8x1x1024x1024_0_0_2_0)))
    (ones (extractStridedSlice S8x1x1024x1024 ![0, 0, 2, 1] f slices_S8x1x1026x1026_S8x1x1024x1024_0_0_2_1)))
    (ones (extractStridedSlice S8x1x1024x1024 ![0, 0, 2, 2] f slices_S8x1x1026x1026_S8x1x1024x1024_0_0_2_2))

theorem mask_near : (Cert.On_off_boundaries.fn (F := Ideal) (pict V0)).2.2.2.2
    = nearBits (framed (offBits (sizes V0))) := by
  rw [mask_part8]; rfl

theorem framed_at (o : IVec S8x1x1024x1024 1) (b : Fin 8) (y x : Fin 1024) (Y X : Fin 1026)
    (hy : y.val + 1 = Y.val) (hx : x.val + 1 = X.val) (h : framed o (ix4 b 0 Y X) = ((1 : ℝ) : EReal)) :
    o (ix4 b 0 y x) = 1#1 := by
  unfold framed at h
  pointwise at h
  rw [dif_pos (by omega)] at h
  have e : ∀ v : BitVec 1, ((v.toNat : ℝ) : EReal) = ((1 : ℝ) : EReal) → v = 1#1 := by
    intro v k
    have k' : v.toNat = 1 := by exact_mod_cast EReal.coe_injective k
    exact BitVec.eq_of_toNat_eq k'
  have q := e _ h
  convert q using 3
  all_goals first | rfl | (apply Fin.ext; simp only; omega)

theorem window_of_bits (f : FVec Ideal S8x1x1026x1026 .f32) (b : Fin 8) (y x : Fin 1024)
    (h : nearBits f (ix4 b 0 y x) = 1#1) (Y X : Fin 1026) (h1 : y.val ≤ Y.val) (h2 : Y.val ≤ y.val + 2)
    (h3 : x.val ≤ X.val) (h4 : X.val ≤ x.val + 2) : f (ix4 b 0 Y X) = ((1 : ℝ) : EReal) := by
  unfold nearBits ones at h
  pointwise at h
  simp only [and_one, bit_one] at h
  simp only [one_coe] at h
  obtain ⟨⟨⟨⟨⟨⟨⟨⟨⟨-, a0⟩, a1⟩, a2⟩, c0⟩, c1⟩, c2⟩, d0⟩, d1⟩, d2⟩ := h
  have hy : Y.val = y.val ∨ Y.val = 1 + y.val ∨ Y.val = 2 + y.val := by omega
  have hx : X.val = x.val ∨ X.val = 1 + x.val ∨ X.val = 2 + x.val := by omega
  obtain ⟨Y, hY⟩ := Y
  obtain ⟨X, hX⟩ := X
  rcases hy with rfl | rfl | rfl <;> rcases hx with rfl | rfl | rfl <;> assumption

theorem near_of_bit (hA : Finite (pict V0)) (b : Fin 8) (y x : Fin 1024)
    (h : nearBits (framed (offBits (sizes V0))) (ix4 b 0 y x) = 1#1) : OffAll (pict V0) b y x := by
  intro y' x' h1 h2 h3 h4
  refine off_of_bit V0 hA b y' x' (framed_at _ b y' x' ⟨y'.val + 1, by omega⟩ ⟨x'.val + 1, by omega⟩ rfl rfl ?_)
  exact window_of_bits _ b y x h _ _ (by simp only; omega) (by simp only; omega) (by simp only; omega)
    (by simp only; omega)

end Cert.Canny

end
-- ==== Proof.Agree.lean ====
/- The reference's run, its results stated as the same planes as the kernel's. -/
module

public import proofs.«01_k».proof.Proof.Array
public import proofs.«01_k».proof.Proof.Mask

@[expose] public section

set_option maxRecDepth 16384

noncomputable section

namespace Cert.Canny

open Idealize.ShloMosaic Idealize.ShloMosaic.TcCoe Idealize.SL.Sem Idealize.ShloMosaic.StableHlo
open Cert.ReferenceIdeal Cert.ReferenceIdeal.Gen Cert.ReferenceIdeal.Value

/-- A pixel of a result, by its picture, row and column. -/
theorem ix_res (i : Res.Idx) : i = ix4 (i 0) 0 (i 2) (i 3) := by
  funext a
  fin_cases a
  · rfl
  · exact Subsingleton.elim (α := Fin 1) _ _
  · rfl
  · rfl

variable (V0 : Valuation τ sig (Elt Ideal))

theorem off_of_mask (hA : Finite (pict V0)) (i : Res.Idx)
    (h : (Cert.On_off_boundaries.fn (F := Ideal) (pict V0)).2.2.2.1 i = 1#1) :
    Off (slope (pict V0) (i 0) (i 2).val (i 3).val) := by
  rw [mask_off, ix_res i] at h
  exact off_of_bit V0 hA _ _ _ h

theorem near_of_mask (hA : Finite (pict V0)) (i : Res.Idx)
    (h : (Cert.On_off_boundaries.fn (F := Ideal) (pict V0)).2.2.2.2 i = 1#1) :
    OffAll (pict V0) (i 0) (i 2) (i 3) := by
  rw [mask_near, ix_res i] at h
  exact near_of_bit V0 hA _ _ _ h

/-- The reference ends with the same planes, the last two where the mask is set. -/
theorem run_reference (m : (ℓ : Loc nD τ sig) → Buf (Elt Ideal) ℓ)
    (hA : ∀ c, Finite (pict (launchContents m c))) (ρ : Dev nD → PrngReg) :
    θ_run (defs (F := Ideal)) (onTc (τ := τ) (main (F := Ideal))) ⟨m, fun _ => 0, ρ⟩ fun r => ∀ c : Dev nD,
      (∀ i : Res.Idx, r.2.mem ((c.tc : Thread nD τ).loc main_v73) i = plane (gradX (pict (launchContents m c))) i)
      ∧ (∀ i : Res.Idx, r.2.mem ((c.tc : Thread nD τ).loc main_v147) i = plane (gradY (pict (launchContents m c))) i)
      ∧ (∀ i : Res.Idx, r.2.mem ((c.tc : Thread nD τ).loc main_v151) i = plane (mag (pict (launchContents m c))) i)
      ∧ (∀ i : Res.Idx, (Cert.On_off_boundaries.fn (F := Ideal) (pict (launchContents m c))).2.2.2.1 i = 1#1 →
          r.2.mem ((c.tc : Thread nD τ).loc main_v165) i = plane (orient (pict (launchContents m c))) i)
      ∧ (∀ i : Res.Idx, (Cert.On_off_boundaries.fn (F := Ideal) (pict (launchContents m c))).2.2.2.2 i = 1#1 →
          r.2.mem ((c.tc : Thread nD τ).loc main_v330) i = plane (edge (pict (launchContents m c))) i)
      ∧ r.2.mem ((c.tc : Thread nD τ).loc main_arg0) = m ((c.tc : Thread nD τ).loc main_arg0) := by
  refine (θ_run defs _ _).mono (fun r h c => ?_) (Cert.ReferenceIdeal.Value.run (F := Ideal) m ρ)
  obtain ⟨h0, h1, h2, h3, h4, h5⟩ := h c
  refine ⟨fun i => ?_, fun i => ?_, fun i => ?_, fun i k => ?_, fun i k => ?_, h5⟩
  · refine (congrFun h0 i).trans ?_
    rw [ix_res i]; exact ref_gradX _ (hA c) _ _ _
  · refine (congrFun h1 i).trans ?_
    rw [ix_res i]; exact ref_gradY _ (hA c) _ _ _
  · refine (congrFun h2 i).trans ?_
    rw [ix_res i]; exact ref_mag _ (hA c) _ _ _
  · have k' := off_of_mask _ (hA c) i k
    refine (congrFun h3 i).trans ?_
    rw [ix_res i]; exact ref_orient _ (hA c) _ _ _ k'
  · have k' := near_of_mask _ (hA c) i k
    refine (congrFun h4 i).trans ?_
    rw [ix_res i]; exact ref_edge _ (hA c) _ _ _ k'

end Cert.Canny

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_off_boundaries
public import proofs.«01_k».proof.Proof.Gen.KernelIdeal.Value
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference ends, leaving its argument and with every counter at zero. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2.2.2.2.2, sem_eq_zero_of_no_sems (by decide) r.2⟩)
    (Cert.ReferenceIdeal.Value.run (F := Ideal) m g)

/-- Both programs end with the planes of the specification, the last two where the mask is set. -/
theorem planes_agree : Cert.algebraic_KernelIdeal_ReferenceIdeal_on_off_boundaries_pre_finite := by
  intro m g m' g' hpre hsame
  have hA : ∀ c, Cert.Canny.Finite (Cert.Canny.image m c) := fun c => Cert.Canny.finite_of_pre _ (hpre c)
  have hP : ∀ c, Cert.Canny.pict (launchContents m' c) = Cert.Canny.image m c := fun c => hsame c
  refine ⟨fun c => Cert.Canny.plane (Cert.Canny.gradX (Cert.Canny.image m c)),
    fun c => Cert.Canny.plane (Cert.Canny.gradY (Cert.Canny.image m c)),
    fun c => Cert.Canny.plane (Cert.Canny.mag (Cert.Canny.image m c)),
    fun c => Cert.Canny.plane (Cert.Canny.orient (Cert.Canny.image m c)),
    fun c => Cert.Canny.plane (Cert.Canny.edge (Cert.Canny.image m c)), ?_, ?_⟩
  · refine (θ_run Cert.KernelIdeal.defs _ _).mono (fun r h c => ?_) (Cert.Canny.run_kernel m hA g)
    obtain ⟨h0, h1, h2, h3, h4, h5⟩ := h c
    exact ⟨fun i _ => congrFun h0 i, fun i _ => congrFun h1 i, fun i _ => congrFun h2 i,
      fun i _ => congrFun h3 i, fun i _ => congrFun h4 i, h5⟩
  · refine (θ_run Cert.ReferenceIdeal.defs _ _).mono (fun r h c => ?_)
      (Cert.Canny.run_reference m' (fun c => (hP c).symm ▸ hA c) g')
    have k := h c
    rw [hP c] at k
    obtain ⟨h0, h1, h2, h3, h4, h5⟩ := k
    exact ⟨fun i _ => h0 i, fun i _ => h1 i, fun i _ => h2 i, h3, h4, h5⟩

theorem claim : Cert.Claim := ⟨Cert.Kernel.Gen.facts, Cert.KernelIdeal.Gen.facts, Cert.ReferenceIdeal.Gen.facts, Cert.Pre_finite.Gen.facts, Cert.On_off_boundaries.Gen.facts,
  fun m g _ => Cert.Kernel.Gen.frame m g,
  fun m g _ => Cert.KernelIdeal.Gen.frame m g,
  fun m g _ => Cert.KernelIdeal.Gen.frame m g,
  fun m g _ => reference_ends m g,
  fun m g _ => reference_ends m g,
  IdealRules.named_const.statement Cert.KernelIdeal.κ "third" .f32 0x3EAAAAAB#32 ((1 / 3 : ℝ) : EReal) rfl,
  planes_agree⟩

end Cert.Proof

end
